-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S3x2x12288x1152 : Shape := ⟨4, ![3, 2, 12288, 1152]⟩
abbrev S3x2x1152 : Shape := ⟨3, ![3, 2, 1152]⟩
abbrev S1152x16 : Shape := ⟨2, ![1152, 16]⟩
abbrev S16 : Shape := ⟨1, ![16]⟩
abbrev S3 : Shape := ⟨1, ![3]⟩
abbrev S3x192x256x4 : Shape := ⟨4, ![3, 192, 256, 4]⟩
abbrev S_ : Shape := ⟨0, ![]⟩
abbrev S3x2x12288 : Shape := ⟨3, ![3, 2, 12288]⟩
abbrev S3x2x12288x1 : Shape := ⟨4, ![3, 2, 12288, 1]⟩
abbrev S3x2x1x1152 : Shape := ⟨4, ![3, 2, 1, 1152]⟩

class Facts : Prop where
  bitsLt_bf16_f32 : FTy.bits .bf16 < FTy.bits .f32
  reducesTo_S3x2x12288x1152_S3x2x12288_d3 : S3x2x12288x1152.ReducesTo [3] S3x2x12288
  h_S_ : 0 < S_.numel
  bcast_S3x2x12288_S3x2x12288x1_0_1_2 : S3x2x12288.BroadcastsInDim S3x2x12288x1 (![0, 1, 2] : Fin 3 → Fin S3x2x12288x1.rank)
  bcast_S_S3x2x12288x1 : S_.BroadcastsInDim S3x2x12288x1 (![] : Fin 0 → Fin S3x2x12288x1.rank)
  bcast_S3x2x12288x1_S3x2x12288x1152_0_1_2_3 : S3x2x12288x1.BroadcastsInDim S3x2x12288x1152 (![0, 1, 2, 3] : Fin 4 → Fin S3x2x12288x1152.rank)
  bcast_S3x2x1152_S3x2x1x1152_0_1_3 : S3x2x1152.BroadcastsInDim S3x2x1x1152 (![0, 1, 3] : Fin 3 → Fin S3x2x1x1152.rank)
  bcast_S_S3x2x1x1152 : S_.BroadcastsInDim S3x2x1x1152 (![] : Fin 0 → Fin S3x2x1x1152.rank)
  bcast_S3x2x1x1152_S3x2x12288x1152_0_1_2_3 : S3x2x1x1152.BroadcastsInDim S3x2x12288x1152 (![0, 1, 2, 3] : Fin 4 → Fin S3x2x12288x1152.rank)
  bcast_S_S3x2x12288 : S_.BroadcastsInDim S3x2x12288 (![] : Fin 0 → Fin S3x2x12288.rank)

variable [Facts]

def fn_part1 {F : FTy → Type} [FloatOps F] (main_arg1 : FVec F S3x2x1152 .f32) (main_v16 : FVec F S3x2x12288x1152 .f32) (main_v17 : FVec F S3x2x1x1152 .f32) (main_cst_4 : FVec F S_ .f32) : IVec S3x2x12288 1 :=
  let main_v18 : FVec F S3x2x1x1152 .f32 := broadcastInDim S3x2x1x1152 ![] bcast_S_S3x2x1x1152 main_cst_4
  let main_v19 : FVec F S3x2x1x1152 .f32 := addf main_v18 main_v17
  let main_v20 : FVec F S3x2x12288x1152 .f32 := broadcastInDim S3x2x12288x1152 ![0, 1, 2, 3] bcast_S3x2x1x1152_S3x2x12288x1152_0_1_2_3 main_v19
  let main_v21 : FVec F S3x2x12288x1152 .f32 := mulf main_v16 main_v20
  let main_v22 : FVec F S3x2x1x1152 .f32 := broadcastInDim S3x2x1x1152 ![0, 1, 3] bcast_S3x2x1152_S3x2x1x1152_0_1_3 main_arg1
  let main_v23 : FVec F S3x2x12288x1152 .f32 := broadcastInDim S3x2x12288x1152 ![0, 1, 2, 3] bcast_S3x2x1x1152_S3x2x12288x1152_0_1_2_3 main_v22
  let main_v24 : FVec F S3x2x12288x1152 .f32 := addf main_v21 main_v23
  let main_v25 : FVec F S3x2x12288x1152 .f32 := Host.absf main_v24
  let main_cst_5 : FVec F S_ .f32 := constant S_ .f32 0xFF800000#32
  let main_v26 : FVec F S3x2x12288 .f32 := (fun x v => Host.reduce FloatOps.maximumf x v reducesTo_S3x2x12288x1152_S3x2x12288_d3 h_S_) main_v25 main_cst_5
  let main_cst_6 : FVec F S_ .f32 := constant S_ .f32 0x3B124925#32
  let main_v27 : FVec F S3x2x12288 .f32 := broadcastInDim S3x2x12288 ![] bcast_S_S3x2x12288 main_cst_6
  let main_v28 : FVec F S3x2x12288 .f32 := mulf main_v26 main_v27
  let main_cst_7 : FVec F S_ .f32 := constant S_ .f32 0x7E800000#32
  let main_v29 : FVec F S3x2x12288 .f32 := broadcastInDim S3x2x12288 ![] bcast_S_S3x2x12288 main_cst_7
  let main_v30 : IVec S3x2x12288 1 := cmpf .olt main_v28 main_v29
  main_v30

def fn {F : FTy → Type} [FloatOps F] (main_arg0 : FVec F S3x2x12288x1152 .bf16) (main_arg1 : FVec F S3x2x1152 .f32) (main_arg2 : FVec F S3x2x1152 .f32) (main_arg3 : FVec F S1152x16 .fp8e4m3) (main_arg4 : FVec F S16 .f32) (main_arg5 : FVec F S16 .f32) (main_arg6 : FVec F S3 .f32) (main_arg7 : FVec F S3 .f32) (main_arg8 : FVec F S3 .f32) (main_arg9 : FVec F S3x192x256x4 .f32) : IVec S3x2x12288 1 :=
  let main_v0 : FVec F S3x2x12288x1152 .f32 := (extf .f32 · bitsLt_bf16_f32) main_arg0
  let main_cst : FVec F S_ .f32 := constant S_ .f32 0x00000000#32
  let main_v1 : FVec F S3x2x12288 .f32 := (fun x v => Host.reduceAdd x v reducesTo_S3x2x12288x1152_S3x2x12288_d3 h_S_) main_v0 main_cst
  let main_v2 : FVec F S3x2x12288x1 .f32 := broadcastInDim S3x2x12288x1 ![0, 1, 2] bcast_S3x2x12288_S3x2x12288x1_0_1_2 main_v1
  let main_cst_0 : FVec F S_ .f32 := constant S_ .f32 0x44900000#32
  let main_v3 : FVec F S3x2x12288x1 .f32 := broadcastInDim S3x2x12288x1 ![] bcast_S_S3x2x12288x1 main_cst_0
  let main_v4 : FVec F S3x2x12288x1 .f32 := Host.divf main_v2 main_v3
  let main_v5 : FVec F S3x2x12288x1152 .f32 := broadcastInDim S3x2x12288x1152 ![0, 1, 2, 3] bcast_S3x2x12288x1_S3x2x12288x1152_0_1_2_3 main_v4
  let main_v6 : FVec F S3x2x12288x1152 .f32 := subf main_v0 main_v5
  let main_v7 : FVec F S3x2x12288x1152 .f32 := mulf main_v6 main_v6
  let main_cst_1 : FVec F S_ .f32 := constant S_ .f32 0x00000000#32
  let main_v8 : FVec F S3x2x12288 .f32 := (fun x v => Host.reduceAdd x v reducesTo_S3x2x12288x1152_S3x2x12288_d3 h_S_) main_v7 main_cst_1
  let main_v9 : FVec F S3x2x12288x1 .f32 := broadcastInDim S3x2x12288x1 ![0, 1, 2] bcast_S3x2x12288_S3x2x12288x1_0_1_2 main_v8
  let main_cst_2 : FVec F S_ .f32 := constant S_ .f32 0x44900000#32
  let main_v10 : FVec F S3x2x12288x1 .f32 := broadcastInDim S3x2x12288x1 ![] bcast_S_S3x2x12288x1 main_cst_2
  let main_v11 : FVec F S3x2x12288x1 .f32 := Host.divf main_v9 main_v10
  let main_cst_3 : FVec F S_ .f32 := constant S_ .f32 0x358637BD#32
  let main_v12 : FVec F S3x2x12288x1 .f32 := broadcastInDim S3x2x12288x1 ![] bcast_S_S3x2x12288x1 main_cst_3
  let main_v13 : FVec F S3x2x12288x1 .f32 := addf main_v11 main_v12
  let main_v14 : FVec F S3x2x12288x1 .f32 := Host.rsqrt main_v13
  let main_v15 : FVec F S3x2x12288x1152 .f32 := broadcastInDim S3x2x12288x1152 ![0, 1, 2, 3] bcast_S3x2x12288x1_S3x2x12288x1152_0_1_2_3 main_v14
  let main_v16 : FVec F S3x2x12288x1152 .f32 := mulf main_v6 main_v15
  let main_v17 : FVec F S3x2x1x1152 .f32 := broadcastInDim S3x2x1x1152 ![0, 1, 3] bcast_S3x2x1152_S3x2x1x1152_0_1_3 main_arg2
  let main_cst_4 : FVec F S_ .f32 := constant S_ .f32 0x3F800000#32
  fn_part1 (F := F) main_arg1 main_v16 main_v17 main_cst_4
-- ==== Kernel.lean ====
abbrev S3x2x12288x1152 : Shape := ⟨4, ![3, 2, 12288, 1152]⟩
abbrev S3x2x1152 : Shape := ⟨3, ![3, 2, 1152]⟩
abbrev S1152x16 : Shape := ⟨2, ![1152, 16]⟩
abbrev S16 : Shape := ⟨1, ![16]⟩
abbrev S3 : Shape := ⟨1, ![3]⟩
abbrev S3x192x256x4 : Shape := ⟨4, ![3, 192, 256, 4]⟩
abbrev S3x192x4x256 : Shape := ⟨4, ![3, 192, 4, 256]⟩
abbrev S1x3 : Shape := ⟨2, ![1, 3]⟩
abbrev S2x3 : Shape := ⟨2, ![2, 3]⟩
abbrev S16x1152 : Shape := ⟨2, ![16, 1152]⟩
abbrev S16x1 : Shape := ⟨2, ![16, 1]⟩
abbrev S3x2x96x128 : Shape := ⟨4, ![3, 2, 96, 128]⟩
abbrev S1x2x1024x1152 : Shape := ⟨4, ![1, 2, 1024, 1152]⟩
abbrev S1x2x1152 : Shape := ⟨3, ![1, 2, 1152]⟩
abbrev S1x16x4x256 : Shape := ⟨4, ![1, 16, 4, 256]⟩
abbrev S1x2x8x128 : Shape := ⟨4, ![1, 2, 8, 128]⟩
abbrev S1x1 : Shape := ⟨2, ![1, 1]⟩
abbrev S1x1x1152 : Shape := ⟨3, ![1, 1, 1152]⟩
abbrev S1x1152 : Shape := ⟨2, ![1, 1152]⟩
abbrev S1x1x32x1152 : Shape := ⟨4, ![1, 1, 32, 1152]⟩
abbrev S32x1152 : Shape := ⟨2, ![32, 1152]⟩
abbrev S32 : Shape := ⟨1, ![32]⟩
abbrev S32x1 : Shape := ⟨2, ![32, 1]⟩
abbrev S128x1 : Shape := ⟨2, ![128, 1]⟩
abbrev S1x128 : Shape := ⟨2, ![1, 128]⟩
abbrev S1x1x1x128 : Shape := ⟨4, ![1, 1, 1, 128]⟩
abbrev S8x128 : Shape := ⟨2, ![8, 128]⟩
abbrev S1x1x128x1152 : Shape := ⟨4, ![1, 1, 128, 1152]⟩
abbrev S128x1152 : Shape := ⟨2, ![128, 1152]⟩
abbrev S16x128 : Shape := ⟨2, ![16, 128]⟩
abbrev S8x128x1 : Shape := ⟨3, ![8, 128, 1]⟩
abbrev S4x128 : Shape := ⟨2, ![4, 128]⟩
abbrev S4x256 : Shape := ⟨2, ![4, 256]⟩
abbrev S1x1x4x256 : Shape := ⟨4, ![1, 1, 4, 256]⟩
abbrev S3x2x12288 : Shape := ⟨3, ![3, 2, 12288]⟩

abbrev nBuf : Space → Nat
  | .hbm => 25
  | .vmem => 19
  | .smem => 1
  | _ => 0

abbrev bufTy : (tb : Table) → Fin (tcTables nBuf tb) → BufTy
  | .hbm, ⟨0, _⟩ => ⟨S3x2x12288x1152, .bf16⟩
  | .hbm, ⟨1, _⟩ => ⟨S3x2x1152, .f32⟩
  | .hbm, ⟨2, _⟩ => ⟨S3x2x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x192x256x4, .f32⟩
  | .hbm, ⟨10, _⟩ => ⟨S3x192x4x256, .f32⟩
  | .hbm, ⟨11, _⟩ => ⟨S3, .f32⟩
  | .hbm, ⟨12, _⟩ => ⟨S1x3, .f32⟩
  | .hbm, ⟨13, _⟩ => ⟨S1x3, .f32⟩
  | .hbm, ⟨14, _⟩ => ⟨S2x3, .f32⟩
  | .hbm, ⟨15, _⟩ => ⟨S16x1152, .fp8e4m3⟩
  | .hbm, ⟨16, _⟩ => ⟨S16x1, .f32⟩
  | .hbm, ⟨17, _⟩ => ⟨S16x1, .f32⟩
  | .hbm, ⟨18, _⟩ => ⟨S3x192x4x256, .f32⟩
  | .hbm, ⟨19, _⟩ => ⟨S3x192x4x256, .bf16⟩
  | .hbm, ⟨20, _⟩ => ⟨S3x2x12288x1152, .fp8e4m3⟩
  | .hbm, ⟨21, _⟩ => ⟨S3x2x96x128, .f32⟩
  | .hbm, ⟨22, _⟩ => ⟨S3x192x256x4, .f32⟩
  | .hbm, ⟨23, _⟩ => ⟨S3x192x256x4, .bf16⟩
  | .hbm, ⟨24, _⟩ => ⟨S3x2x12288, .f32⟩
  | .local _ .vmem, ⟨0, _⟩ => ⟨S1x2x1024x1152, .bf16⟩
  | .local _ .vmem, ⟨1, _⟩ => ⟨S1x2x1024x1152, .bf16⟩
  | .local _ .vmem, ⟨2, _⟩ => ⟨S1x2x1152, .f32⟩
  | .local _ .vmem, ⟨3, _⟩ => ⟨S1x2x1152, .f32⟩
  | .local _ .vmem, ⟨4, _⟩ => ⟨S1x2x1152, .f32⟩
  | .local _ .vmem, ⟨5, _⟩ => ⟨S1x2x1152, .f32⟩
  | .local _ .vmem, ⟨6, _⟩ => ⟨S16x1152, .fp8e4m3⟩
  | .local _ .vmem, ⟨7, _⟩ => ⟨S16x1, .f32⟩
  | .local _ .vmem, ⟨8, _⟩ => ⟨S16x1, .f32⟩
  | .local _ .vmem, ⟨9, _⟩ => ⟨S1x16x4x256, .f32⟩
  | .local _ .vmem, ⟨10, _⟩ => ⟨S1x16x4x256, .f32⟩
  | .local _ .vmem, ⟨11, _⟩ => ⟨S1x16x4x256, .f32⟩
  | .local _ .vmem, ⟨12, _⟩ => ⟨S1x16x4x256, .f32⟩
  | .local _ .vmem, ⟨13, _⟩ => ⟨S1x16x4x256, .bf16⟩
  | .local _ .vmem, ⟨14, _⟩ => ⟨S1x16x4x256, .bf16⟩
  | .local _ .vmem, ⟨15, _⟩ => ⟨S1x2x1024x1152, .fp8e4m3⟩
  | .local _ .vmem, ⟨16, _⟩ => ⟨S1x2x1024x1152, .fp8e4m3⟩
  | .local _ .vmem, ⟨17, _⟩ => ⟨S1x2x8x128, .f32⟩
  | .local _ .vmem, ⟨18, _⟩ => ⟨S1x2x8x128, .f32⟩
  | .local _ .smem, ⟨0, _⟩ => ⟨S2x3, .f32⟩
  | _, _ => ⟨S3x2x12288x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![3, 12], ![false, false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v30 : BitVec 32 := Scalar.muli arg14 c128_i32
  let c0_i32_29 : BitVec 32 := 0#32
  let v31 : BitVec 32 := Scalar.addi v30 c0_i32_29
  v31
def k0_off3 (k0_t1 : Fin k0_t1_loop.trips) (c0_i32_29 : BitVec 32) : Fin 4 → Nat :=
  let c0_30 : Index := 0#32
  let c0_31 : Index := 0#32
  let c0_i32 : BitVec 32 := 0#32
  let c1_i32 : BitVec 32 := 1#32
  let arg14 : BitVec 32 := Scf.iv c0_i32 c1_i32 k0_t1
  let c128_i32 : BitVec 32 := 128#32
  let v30 : BitVec 32 := Scalar.muli arg14 c128_i32
  let v31 : BitVec 32 := Scalar.addi v30 c0_i32_29
  let v32 : BitVec 32 := v31
  let v33 : Index := Scalar.indexCast v32
  let c0_32 : Index := 0#32
  ![0, 0, v33.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_50 : BitVec 32 := 128#32
  let v126 : BitVec 32 := Scalar.muli arg14 c128_i32_50
  let c32_i32 : BitVec 32 := 32#32
  let v127 : BitVec 32 := Scalar.addi v126 c32_i32
  v127
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_80 : BitVec 32 := 128#32
  let v222 : BitVec 32 := Scalar.muli arg14 c128_i32_80
  let c64_i32 : BitVec 32 := 64#32
  let v223 : BitVec 32 := Scalar.addi v222 c64_i32
  v223
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32_110 : BitVec 32 := 128#32
  let v318 : BitVec 32 := Scalar.muli arg14 c128_i32_110
  let c96_i32 : BitVec 32 := 96#32
  let v319 : BitVec 32 := Scalar.addi v318 c96_i32
  v319
def k0_off4 (k0_t1 : Fin k0_t1_loop.trips) : Fin 4 → Nat :=
  let c0_140 : Index := 0#32
  let c0_141 : Index := 0#32
  let c0_i32 : BitVec 32 := 0#32
  let c1_i32 : BitVec 32 := 1#32
  let arg14 : BitVec 32 := Scf.iv c0_i32 c1_i32 k0_t1
  let v416 : Index := Scalar.indexCast arg14
  let c0_142 : Index := 0#32
  ![0, 0, v416.toNat, 0]
@[reducible] def k0_t2_loop : Scf.Loop 32 :=
  let c0_i32_14 : BitVec 32 := 0#32
  let c8_i32_15 : BitVec 32 := 8#32
  let v17 : BitVec 32 := Scalar.addi c0_i32_14 c8_i32_15
  let c1_i32_16 : BitVec 32 := 1#32
  ⟨c0_i32_14, v17, c1_i32_16⟩
def k0_mult5 (k0_t2 : Fin k0_t2_loop.trips) : BitVec 32 :=
  let c0_i32_14 : BitVec 32 := 0#32
  let c1_i32_16 : BitVec 32 := 1#32
  let arg14 : BitVec 32 := Scf.iv c0_i32_14 c1_i32_16 k0_t2
  let c128_i32 : BitVec 32 := 128#32
  let v30 : BitVec 32 := Scalar.muli arg14 c128_i32
  let c0_i32_29 : BitVec 32 := 0#32
  let v31 : BitVec 32 := Scalar.addi v30 c0_i32_29
  v31
def k0_off5 (k0_t2 : Fin k0_t2_loop.trips) (c0_i32_29 : BitVec 32) : Fin 4 → Nat :=
  let c0_30 : Index := 0#32
  let c1_31 : Index := 1#32
  let c0_i32_14 : BitVec 32 := 0#32
  let c1_i32_16 : BitVec 32 := 1#32
  let arg14 : BitVec 32 := Scf.iv c0_i32_14 c1_i32_16 k0_t2
  let c128_i32 : BitVec 32 := 128#32
  let v30 : BitVec 32 := Scalar.muli arg14 c128_i32
  let v31 : BitVec 32 := Scalar.addi v30 c0_i32_29
  let v32 : BitVec 32 := v31
  let v33 : Index := Scalar.indexCast v32
  let c0_32 : Index := 0#32
  ![0, 1, v33.toNat, 0]
def k0_mult6 (k0_t2 : Fin k0_t2_loop.trips) : BitVec 32 :=
  let c0_i32_14 : BitVec 32 := 0#32
  let c1_i32_16 : BitVec 32 := 1#32
  let arg14 : BitVec 32 := Scf.iv c0_i32_14 c1_i32_16 k0_t2
  let c128_i32_50 : BitVec 32 := 128#32
  let v126 : BitVec 32 := Scalar.muli arg14 c128_i32_50
  let c32_i32 : BitVec 32 := 32#32
  let v127 : BitVec 32 := Scalar.addi v126 c32_i32
  v127
def k0_mult7 (k0_t2 : Fin k0_t2_loop.trips) : BitVec 32 :=
  let c0_i32_14 : BitVec 32 := 0#32
  let c1_i32_16 : BitVec 32 := 1#32
  let arg14 : BitVec 32 := Scf.iv c0_i32_14 c1_i32_16 k0_t2
  let c128_i32_80 : BitVec 32 := 128#32
  let v222 : BitVec 32 := Scalar.muli arg14 c128_i32_80
  let c64_i32 : BitVec 32 := 64#32
  let v223 : BitVec 32 := Scalar.addi v222 c64_i32
  v223
def k0_mult8 (k0_t2 : Fin k0_t2_loop.trips) : BitVec 32 :=
  let c0_i32_14 : BitVec 32 := 0#32
  let c1_i32_16 : BitVec 32 := 1#32
  let arg14 : BitVec 32 := Scf.iv c0_i32_14 c1_i32_16 k0_t2
  let c128_i32_110 : BitVec 32 := 128#32
  let v318 : BitVec 32 := Scalar.muli arg14 c128_i32_110
  let c96_i32 : BitVec 32 := 96#32
  let v319 : BitVec 32 := Scalar.addi v318 c96_i32
  v319
def k0_off6 (k0_t2 : Fin k0_t2_loop.trips) : Fin 4 → Nat :=
  let c0_140 : Index := 0#32
  let c1_141 : Index := 1#32
  let c0_i32_14 : BitVec 32 := 0#32
  let c1_i32_16 : BitVec 32 := 1#32
  let arg14 : BitVec 32 := Scf.iv c0_i32_14 c1_i32_16 k0_t2
  let v416 : Index := Scalar.indexCast arg14
  let c0_142 : Index := 0#32
  ![0, 1, v416.toNat, 0]
@[reducible] def k0_t3_loop : Scf.Loop 32 :=
  let c0_i32_25 : BitVec 32 := 0#32
  let c8_i32_26 : BitVec 32 := 8#32
  let v29 : BitVec 32 := Scalar.addi c0_i32_25 c8_i32_26
  let c1_i32_27 : BitVec 32 := 1#32
  ⟨c0_i32_25, v29, c1_i32_27⟩
def k0_mult9 (k0_t3 : Fin k0_t3_loop.trips) : BitVec 32 :=
  let c0_i32_25 : BitVec 32 := 0#32
  let c1_i32_27 : BitVec 32 := 1#32
  let arg14 : BitVec 32 := Scf.iv c0_i32_25 c1_i32_27 k0_t3
  let c128_i32 : BitVec 32 := 128#32
  let v30 : BitVec 32 := Scalar.muli arg14 c128_i32
  v30
def k0_off7 (k0_t3 : Fin k0_t3_loop.trips) : Fin 4 → Nat :=
  let c0_31 : Index := 0#32
  let c0_32 : Index := 0#32
  let c0_i32_25 : BitVec 32 := 0#32
  let c1_i32_27 : BitVec 32 := 1#32
  let arg14 : BitVec 32 := Scf.iv c0_i32_25 c1_i32_27 k0_t3
  let c128_i32 : BitVec 32 := 128#32
  let v30 : BitVec 32 := Scalar.muli arg14 c128_i32
  let v31 : BitVec 32 := v30
  let v34 : Index := Scalar.indexCast v31
  let c0_33 : Index := 0#32
  ![0, 0, v34.toNat, 0]
def k0_off8 (k0_t3 : Fin k0_t3_loop.trips) : Fin 4 → Nat :=
  let c0_35 : Index := 0#32
  let c0_36 : Index := 0#32
  let c0_i32_25 : BitVec 32 := 0#32
  let c1_i32_27 : BitVec 32 := 1#32
  let arg14 : BitVec 32 := Scf.iv c0_i32_25 c1_i32_27 k0_t3
  let v38 : Index := Scalar.indexCast arg14
  let c0_37 : Index := 0#32
  ![0, 0, v38.toNat, 0]
def k0_off9 (k0_t3 : Fin k0_t3_loop.trips) : Fin 4 → Nat :=
  let c0_40 : Index := 0#32
  let c1_41 : Index := 1#32
  let c0_i32_25 : BitVec 32 := 0#32
  let c1_i32_27 : BitVec 32 := 1#32
  let arg14 : BitVec 32 := Scf.iv c0_i32_25 c1_i32_27 k0_t3
  let c128_i32 : BitVec 32 := 128#32
  let v30 : BitVec 32 := Scalar.muli arg14 c128_i32
  let v31 : BitVec 32 := v30
  let v49 : Index := Scalar.indexCast v31
  let c0_42 : Index := 0#32
  ![0, 1, v49.toNat, 0]
def k0_off10 (k0_t3 : Fin k0_t3_loop.trips) : Fin 4 → Nat :=
  let c0_44 : Index := 0#32
  let c1_45 : Index := 1#32
  let c0_i32_25 : BitVec 32 := 0#32
  let c1_i32_27 : BitVec 32 := 1#32
  let arg14 : BitVec 32 := Scf.iv c0_i32_25 c1_i32_27 k0_t3
  let v53 : Index := Scalar.indexCast arg14
  let c0_46 : Index := 0#32
  ![0, 1, v53.toNat, 0]
def k0_off11 (k0_t3 : Fin k0_t3_loop.trips) (c0_i32_56 : BitVec 32) : Fin 4 → Nat :=
  let c0_57 : Index := 0#32
  let c0_i32_25 : BitVec 32 := 0#32
  let c1_i32_27 : BitVec 32 := 1#32
  let arg14 : BitVec 32 := Scf.iv c0_i32_25 c1_i32_27 k0_t3
  let c2_i32 : BitVec 32 := 2#32
  let v109 : BitVec 32 := Scalar.muli arg14 c2_i32
  let v110 : BitVec 32 := Scalar.addi v109 c0_i32_56
  let v111 : Index := Scalar.indexCast v110
  let c0_58 : Index := 0#32
  let c0_59 : Index := 0#32
  ![0, v111.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S2x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x4x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x1152 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S3x2x12288x1152 : Shape := ⟨4, ![3, 2, 12288, 1152]⟩
abbrev S3x2x1152 : Shape := ⟨3, ![3, 2, 1152]⟩
abbrev S1152x16 : Shape := ⟨2, ![1152, 16]⟩
abbrev S16 : Shape := ⟨1, ![16]⟩
abbrev S3 : Shape := ⟨1, ![3]⟩
abbrev S3x192x256x4 : Shape := ⟨4, ![3, 192, 256, 4]⟩
abbrev S_ : Shape := ⟨0, ![]⟩
abbrev S3x2x12288 : Shape := ⟨3, ![3, 2, 12288]⟩
abbrev S3x2x12288x1 : Shape := ⟨4, ![3, 2, 12288, 1]⟩
abbrev S3x2x1x1152 : Shape := ⟨4, ![3, 2, 1, 1152]⟩
abbrev S253 : Shape := ⟨1, ![253]⟩
abbrev S1x1x1x253 : Shape := ⟨4, ![1, 1, 1, 253]⟩
abbrev S3x2x12288x253 : Shape := ⟨4, ![3, 2, 12288, 253]⟩
abbrev S73728x1152 : Shape := ⟨2, ![73728, 1152]⟩
abbrev S73728x1 : Shape := ⟨2, ![73728, 1]⟩
abbrev S73728x16 : Shape := ⟨2, ![73728, 16]⟩
abbrev S3x2x12288x16 : Shape := ⟨4, ![3, 2, 12288, 16]⟩
abbrev S1x1x1x16 : Shape := ⟨4, ![1, 1, 1, 16]⟩
abbrev S3x1x12288x16 : Shape := ⟨4, ![3, 1, 12288, 16]⟩
abbrev S3x12288x16 : Shape := ⟨3, ![3, 12288, 16]⟩
abbrev S3x1x1 : Shape := ⟨3, ![3, 1, 1]⟩
abbrev S3x96x128x2x2x4 : Shape := ⟨6, ![3, 96, 128, 2, 2, 4]⟩
abbrev S3x96x2x128x2x4 : Shape := ⟨6, ![3, 96, 2, 128, 2, 4]⟩
abbrev S3x1x1x1 : Shape := ⟨4, ![3, 1, 1, 1]⟩

abbrev nBuf : Space → Nat
  | .hbm => 110
  | .vmem => 5
  | .smem => 0
  | _ => 0

abbrev bufTy : (tb : Table) → Fin (tcTables nBuf tb) → BufTy
  | .hbm, ⟨0, _⟩ => ⟨S3x2x12288x1152, .bf16⟩
  | .hbm, ⟨1, _⟩ => ⟨S3x2x1152, .f32⟩
  | .hbm, ⟨2, _⟩ => ⟨S3x2x1152, .f32⟩
  | .hbm, ⟨3, _⟩ => ⟨S1152x16, .fp8e4m3⟩
  | .hbm, ⟨4, _⟩ => ⟨S16, .f32⟩
  | .hbm, ⟨5, _⟩ => ⟨S16, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S3x192x256x4, .f32⟩
  | .hbm, ⟨10, _⟩ => ⟨S3x2x12288x1152, .f32⟩
  | .hbm, ⟨11, _⟩ => ⟨S_, .f32⟩
  | .hbm, ⟨12, _⟩ => ⟨S3x2x12288, .f32⟩
  | .hbm, ⟨13, _⟩ => ⟨S3x2x12288x1, .f32⟩
  | .hbm, ⟨14, _⟩ => ⟨S_, .f32⟩
  | .hbm, ⟨15, _⟩ => ⟨S3x2x12288x1, .f32⟩
  | .hbm, ⟨16, _⟩ => ⟨S3x2x12288x1, .f32⟩
  | .hbm, ⟨17, _⟩ => ⟨S3x2x12288x1152, .f32⟩
  | .hbm, ⟨18, _⟩ => ⟨S3x2x12288x1152, .f32⟩
  | .hbm, ⟨19, _⟩ => ⟨S3x2x12288x1152, .f32⟩
  | .hbm, ⟨20, _⟩ => ⟨S_, .f32⟩
  | .hbm, ⟨21, _⟩ => ⟨S3x2x12288, .f32⟩
  | .hbm, ⟨22, _⟩ => ⟨S3x2x12288x1, .f32⟩
  | .hbm, ⟨23, _⟩ => ⟨S_, .f32⟩
  | .hbm, ⟨24, _⟩ => ⟨S3x2x12288x1, .f32⟩
  | .hbm, ⟨25, _⟩ => ⟨S3x2x12288x1, .f32⟩
  | .hbm, ⟨26, _⟩ => ⟨S_, .f32⟩
  | .hbm, ⟨27, _⟩ => ⟨S3x2x12288x1, .f32⟩
  | .hbm, ⟨28, _⟩ => ⟨S3x2x12288x1, .f32⟩
  | .hbm, ⟨29, _⟩ => ⟨S3x2x12288x1, .f32⟩
  | .hbm, ⟨30, _⟩ => ⟨S3x2x12288x1152, .f32⟩
  | .hbm, ⟨31, _⟩ => ⟨S3x2x12288x1152, .f32⟩
  | .hbm, ⟨32, _⟩ => ⟨S3x2x1x1152, .f32⟩
  | .hbm, ⟨33, _⟩ => ⟨S_, .f32⟩
  | .hbm, ⟨34, _⟩ => ⟨S3x2x1x1152, .f32⟩
  | .hbm, ⟨35, _⟩ => ⟨S3x2x1x1152, .f32⟩
  | .hbm, ⟨36, _⟩ => ⟨S3x2x12288x1152, .f32⟩
  | .hbm, ⟨37, _⟩ => ⟨S3x2x12288x1152, .f32⟩
  | .hbm, ⟨38, _⟩ => ⟨S3x2x1x1152, .f32⟩
  | .hbm, ⟨39, _⟩ => ⟨S3x2x12288x1152, .f32⟩
  | .hbm, ⟨40, _⟩ => ⟨S3x2x12288x1152, .f32⟩
  | .hbm, ⟨41, _⟩ => ⟨S3x2x12288x1152, .f32⟩
  | .hbm, ⟨42, _⟩ => ⟨S_, .f32⟩
  | .hbm, ⟨43, _⟩ => ⟨S3x2x12288, .f32⟩
  | .hbm, ⟨44, _⟩ => ⟨S_, .f32⟩
  | .hbm, ⟨45, _⟩ => ⟨S3x2x12288, .f32⟩
  | .hbm, ⟨46, _⟩ => ⟨S3x2x12288, .f32⟩
  | .hbm, ⟨47, _⟩ => ⟨S_, .f32⟩
  | .hbm, ⟨48, _⟩ => ⟨S253, .f32⟩
  | .hbm, ⟨49, _⟩ => ⟨S253, .i32⟩
  | .hbm, ⟨50, _⟩ => ⟨S_, .i32⟩
  | .hbm, ⟨51, _⟩ => ⟨S253, .i32⟩
  | .hbm, ⟨52, _⟩ => ⟨S253, .i32⟩
  | .hbm, ⟨53, _⟩ => ⟨S253, .f32⟩
  | .hbm, ⟨54, _⟩ => ⟨S253, .f32⟩
  | .hbm, ⟨55, _⟩ => ⟨S3x2x12288x1, .f32⟩
  | .hbm, ⟨56, _⟩ => ⟨S1x1x1x253, .f32⟩
  | .hbm, ⟨57, _⟩ => ⟨S3x2x12288x253, .f32⟩
  | .hbm, ⟨58, _⟩ => ⟨S3x2x12288x253, .f32⟩
  | .hbm, ⟨59, _⟩ => ⟨S3x2x12288x253, .i1⟩
  | .hbm, ⟨60, _⟩ => ⟨S_, .f32⟩
  | .hbm, ⟨61, _⟩ => ⟨S_, .f32⟩
  | .hbm, ⟨62, _⟩ => ⟨S3x2x12288x253, .f32⟩
  | .hbm, ⟨63, _⟩ => ⟨S3x2x12288x253, .f32⟩
  | .hbm, ⟨64, _⟩ => ⟨S3x2x12288x253, .f32⟩
  | .hbm, ⟨65, _⟩ => ⟨S_, .f32⟩
  | .hbm, ⟨66, _⟩ => ⟨S3x2x12288, .f32⟩
  | .hbm, ⟨67, _⟩ => ⟨S_, .f32⟩
  | .hbm, ⟨68, _⟩ => ⟨S3x2x12288, .f32⟩
  | .hbm, ⟨69, _⟩ => ⟨S3x2x12288, .i1⟩
  | .hbm, ⟨70, _⟩ => ⟨S_, .f32⟩
  | .hbm, ⟨71, _⟩ => ⟨S_, .f32⟩
  | .hbm, ⟨72, _⟩ => ⟨S3x2x12288, .f32⟩
  | .hbm, ⟨73, _⟩ => ⟨S3x2x12288, .f32⟩
  | .hbm, ⟨74, _⟩ => ⟨S73728x1152, .f32⟩
  | .hbm, ⟨75, _⟩ => ⟨S_, .f32⟩
  | .hbm, ⟨76, _⟩ => ⟨S3x2x12288, .f32⟩
  | .hbm, ⟨77, _⟩ => ⟨S3x2x12288, .f32⟩
  | .hbm, ⟨78, _⟩ => ⟨S73728x1, .f32⟩
  | .hbm, ⟨79, _⟩ => ⟨S73728x1152, .fp8e4m3⟩
  | .hbm, ⟨80, _⟩ => ⟨S73728x16, .f32⟩
  | .hbm, ⟨81, _⟩ => ⟨S3x2x12288x16, .f32⟩
  | .hbm, ⟨82, _⟩ => ⟨S3x2x12288x1, .f32⟩
  | .hbm, ⟨83, _⟩ => ⟨S3x2x12288x16, .f32⟩
  | .hbm, ⟨84, _⟩ => ⟨S3x2x12288x16, .f32⟩
  | .hbm, ⟨85, _⟩ => ⟨S1x1x1x16, .f32⟩
  | .hbm, ⟨86, _⟩ => ⟨S3x2x12288x16, .f32⟩
  | .hbm, ⟨87, _⟩ => ⟨S3x2x12288x16, .f32⟩
  | .hbm, ⟨88, _⟩ => ⟨S1x1x1x16, .f32⟩
  | .hbm, ⟨89, _⟩ => ⟨S3x2x12288x16, .f32⟩
  | .hbm, ⟨90, _⟩ => ⟨S3x2x12288x16, .f32⟩
  | .hbm, ⟨91, _⟩ => ⟨S3x1x12288x16, .f32⟩
  | .hbm, ⟨92, _⟩ => ⟨S3x12288x16, .f32⟩
  | .hbm, ⟨93, _⟩ => ⟨S3x1x12288x16, .f32⟩
  | .hbm, ⟨94, _⟩ => ⟨S3x12288x16, .f32⟩
  | .hbm, ⟨95, _⟩ => ⟨S3x1x1, .f32⟩
  | .hbm, ⟨96, _⟩ => ⟨S3x12288x16, .f32⟩
  | .hbm, ⟨97, _⟩ => ⟨S3x12288x16, .f32⟩
  | .hbm, ⟨98, _⟩ => ⟨S3x12288x16, .f32⟩
  | .hbm, ⟨99, _⟩ => ⟨S3x12288x16, .f32⟩
  | .hbm, ⟨100, _⟩ => ⟨S3x96x128x2x2x4, .f32⟩
  | .hbm, ⟨101, _⟩ => ⟨S3x96x2x128x2x4, .f32⟩
  | .hbm, ⟨102, _⟩ => ⟨S3x192x256x4, .f32⟩
  | .hbm, ⟨103, _⟩ => ⟨S3, .f32⟩
  | .hbm, ⟨104, _⟩ => ⟨S3x1x1x1, .f32⟩
  | .hbm, ⟨105, _⟩ => ⟨S3x192x256x4, .f32⟩
  | .hbm, ⟨106, _⟩ => ⟨S3x192x256x4, .f32⟩
  | .hbm, ⟨107, _⟩ => ⟨S3x192x256x4, .f32⟩
  | .hbm, ⟨108, _⟩ => ⟨S3x192x256x4, .bf16⟩
  | .hbm, ⟨109, _⟩ => ⟨S3x2x12288x1152, .fp8e4m3⟩
  | .local _ .vmem, ⟨0, _⟩ => ⟨S73728x1152, .f32⟩
  | .local _ .vmem, ⟨1, _⟩ => ⟨S73728x1, .f32⟩
  | .local _ .vmem, ⟨2, _⟩ => ⟨S1152x16, .fp8e4m3⟩
  | .local _ .vmem, ⟨3, _⟩ => ⟨S73728x1152, .fp8e4m3⟩
  | .local _ .vmem, ⟨4, _⟩ => ⟨S73728x16, .f32⟩
  | _, _ => ⟨S3x2x12288x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49_0 : Ref sig .tc := ⟨.hbm, 79, rfl⟩
abbrev main_v49_1 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S73728x1152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S73728x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x16 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S73728x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S73728x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.PFrame.lean ====
/-
  The frame of the kernel as printed, at any floats: it ends, its arguments unchanged, every counter at zero. Nothing is said of what
  it leaves in its outputs, so the proof data forgets them.
-/
module

public import proofs.«01_k».proof.Proof.Gen.Kernel.Frame.Runs
public import Idealize.ShloMosaic.Lib.Pipeline.FrameSuffix

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.Kernel.Any
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple, the outputs at anything. -/
theorem body_any (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (x0 : Vec F S2x3 .f32) (x1 : Vec F S1x2x1024x1152 .bf16) (x2 : Vec F S1x2x1152 .f32) (x3 : Vec F S1x2x1152 .f32) (x4 : Vec F S16x1152 .fp8e4m3) (x5 : Vec F S16x1 .f32) (x6 : Vec F S16x1 .f32) (x7 : Vec F S1x16x4x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13) K := by
  simp only [cc0_dit_final_eq_skeleton]; unfold cc0_dit_final_skel
  simp only [k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

/-! ## The pipeline's proof data -/

/-- The proof data of the one pipeline on core `c`: the arrays as the region finds them (`V`); after the body at
    point `t` each input's buffer at its block and the outputs' forgotten; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon []
    | ⟨9, _⟩ => View.canon []
    | ⟨10, _⟩ => View.canon []
    | ⟨11, _⟩ => View.canon []
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_any c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  isplitl [H11]; · iexists d11; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The outputs, forgotten. -/
def fgt (w : Fin cfg0.W) : Bool := decide (8 ≤ w.val)

/-- The library's body obligation, at every point: the body's triple restated (Lib/Pipeline/FrameBody.lean `triple_restated`). -/
theorem body_obligation (c : Dev nD) : BodyObligation (dats m 0 c) (defs₀ (F := F)) Variants.none () Set.univ fgt := fun t => by
  rw [bigSep_W0, bigSep_W0, defs₀_row]
  exact triple_restated (sound_body m c t) rfl .rfl fun _ => .rfl

/-! ## The run and the frame -/

/-- The buffers the lines after the region write. -/
def T : Finset (Ref sig .tc) := {main_v9, main_v10, main_v11}

theorem sfx_T : ∀ ops ∈ ([hostOps1] : List (List (HloOp τ sig (Elt F)))), ∀ op ∈ ops, ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      have hb' := Proc.devRef_injective _ hb
      subst hb'
      decide

set_option backward.isDefEq.respectTransparency.types false in
set_option maxHeartbeats 800000 in
/-- The run: what it leaves outside the outputs, and every counter at zero. -/
theorem run_any : θ_run defs (onTc (τ := τ) (main (F := F))) (s₀ m ρ) (fun r => Pipeline.RDat.FramePostR cfg0 (fun c => (dats m 0 c).toRForget fgt) T (fun c b => V0 m c (Proc.devRef .tc b)) r ∧ r.2.sem = fun _ => 0) :=
  Pipeline.θ_run_frame_around_T_forget (Q' := _) cfgs (dats m) (0 : Fin 1) launch0 defs₀ Variants.none fgt T m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl)

theorem rest (r : PUnit × MemSt nD τ sig (Elt F))
    (h : Pipeline.RDat.FramePostR cfg0 (fun c => (dats m 0 c).toRForget fgt) T (fun c b => V0 m c (Proc.devRef .tc b)) r) (c : Dev nD)
    (b : Ref sig .tc) (h1 : b ∈ Pipeline.restRefs sig spec0) (h2 : b ∉ T) : r.2.mem ((c : Thread nD τ).loc b) = V m c b :=
  (h c).2 b (Finset.mem_sdiff.mpr ⟨h1, h2⟩)

theorem inp (r : PUnit × MemSt nD τ sig (Elt F))
    (h : Pipeline.RDat.FramePostR cfg0 (fun c => (dats m 0 c).toRForget fgt) T (fun c b => V0 m c (Proc.devRef .tc b)) r) (c : Dev nD)
    (w : Fin cfg0.W) (hw : (cfg0.win w).isOut = false) : r.2.mem ((cfg0.spec w).arr.view.loc (c.tc : Thread nD τ)) = V m c (Pipeline.arrRef spec0 w) :=
  (h.arr_in c w hw).trans (A_eq m c w)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(inp m r h.1 c 1 rfl).trans (V_main_arg0 m c), (inp m r h.1 c 2 rfl).trans (V_main_arg1 m c),
    (inp m r h.1 c 3 rfl).trans (V_main_arg2 m c),
    (rest m r h.1 c main_arg3 (Pipeline.mem_restRefs_of main_arg3 (by decide) (by decide)) (by decide)).trans (V_main_arg3 m c),
    (rest m r h.1 c main_arg4 (Pipeline.mem_restRefs_of main_arg4 (by decide) (by decide)) (by decide)).trans (V_main_arg4 m c),
    (rest m r h.1 c main_arg5 (Pipeline.mem_restRefs_of main_arg5 (by decide) (by decide)) (by decide)).trans (V_main_arg5 m c),
    (rest m r h.1 c main_arg6 (Pipeline.mem_restRefs_of main_arg6 (by decide) (by decide)) (by decide)).trans (V_main_arg6 m c),
    (rest m r h.1 c main_arg7 (Pipeline.mem_restRefs_of main_arg7 (by decide) (by decide)) (by decide)).trans (V_main_arg7 m c),
    (rest m r h.1 c main_arg8 (Pipeline.mem_restRefs_of main_arg8 (by decide) (by decide)) (by decide)).trans (V_main_arg8 m c),
    (rest m r h.1 c main_arg9 (Pipeline.mem_restRefs_of main_arg9 (by decide) (by decide)) (by decide)).trans (V_main_arg9 m c)⟩, h.2⟩) (run_any m ρ)

end Cert.Kernel.Any

end
-- ==== Proof.Spec.lean ====
/-
  The mathematics of the layer, one row (token) at a time, over the extended reals: what both programs compute.

  `rowH` is the modulated layer norm of a row, `rowQ` the greatest magnitude of the row over 448, `search` the search for
  the exponent field of that quotient, `scaleOf` and `invOf` the power-of-two scale and its inverse read off the field,
  `codeOf` the quantised entry.
-/
module

public import Idealize.ShloMosaic.Lib.Pointwise

@[expose] public section

noncomputable section

open Idealize.ShloMosaic

namespace Cert.Spec

/-- The mean of a row. -/
def rowMean (x : Fin 1152 → EReal) : EReal := Ideal.div (∑ j, x j) (Ideal.ofBits FTy.f32 0x44900000#32)

/-- The modulated layer norm of the row `x`, gain `g` (about 1) and shift `s`, at `l`. -/
def rowH (x g s : Fin 1152 → EReal) (l : Fin 1152) : EReal :=
  (x l - rowMean x) * Ideal.rsqrt (rowMean (fun j => (x j - rowMean x) * (x j - rowMean x)) + Ideal.ofBits FTy.f32 0x358637BD#32)
    * (1 + g l) + s l

/-- The greatest magnitude of a row. -/
def rowMax (h : Fin 1152 → EReal) : EReal :=
  Finset.fold max (Ideal.ofBits FTy.f32 0xFF800000#32) (fun j => FloatOps.absf (F := Ideal) (φ := FTy.f32) (h j)) Finset.univ

/-- The greatest magnitude of a row, over 448. -/
def rowQ (h : Fin 1152 → EReal) : EReal := rowMax h * Ideal.ofBits FTy.f32 0x3B124925#32

/-- One step of the search for the exponent field of `t`: the bits `b` are added to `e` unless the float they make exceeds `t`. -/
def step (t : EReal) (e b : BitVec 32) : BitVec 32 :=
  if t < Ideal.ofBits FTy.f32 (IntOp.ori e b) then e else IntOp.ori e b

/-- The search: the eight exponent bits from the highest down. -/
def search (t : EReal) : BitVec 32 :=
  step t (step t (step t (step t (step t (step t (step t (step t 0#32 1073741824#32) 536870912#32) 268435456#32) 134217728#32)
    67108864#32) 33554432#32) 16777216#32) 8388608#32

/-- The scale of a row with quotient `t`. -/
def scaleOf (t : EReal) : EReal :=
  if search t = 0#32 then 1 else Ideal.ofBits FTy.f32 (IntOp.addi (search t) 8388608#32)

/-- The inverse of the scale, as the kernel reads it off the field. -/
def invOf (t : EReal) : EReal :=
  if search t = 0#32 then 1 else Ideal.ofBits FTy.f32 (IntOp.subi 2122317824#32 (search t))

/-- An entry times the inverse scale, clipped to ±448. -/
def codeOf (h inv : EReal) : EReal :=
  min (Ideal.ofBits FTy.f32 0x43E00000#32) (max (Ideal.ofBits FTy.f32 0xC3E00000#32) (h * inv))

/-- The codes of a row. -/
def rowCodes (x g s : Fin 1152 → EReal) (l : Fin 1152) : EReal :=
  codeOf (rowH x g s l) (invOf (rowQ (rowH x g s)))

/-- The scale of a row. -/
def rowScale (x g s : Fin 1152 → EReal) : EReal := scaleOf (rowQ (rowH x g s))

/-- One output of the product for one token: the dot with the row `w` of weights, times the token's scale and the row's, plus the bias. -/
def yOf (w c : Fin 1152 → EReal) (s ws b : EReal) : EReal := (∑ k, w k * c k) * s * ws + b

/-- The guided mixture of the two branches' outputs. -/
def mixOf (g y0 y1 : EReal) : EReal := y1 + g * (y0 - y1)

end Cert.Spec
-- ==== Proof.Row.lean ====
/-
  A block of 32 rows as the kernel treats it, at an index: the kernel quantises 32 rows at a time, eight times per trip, and
  the eight stretches of text are the same operations cut at other places. They are named once here (`codesBlk`, `scaleBlk`)
  and read at an index as the row functions of Spec.lean.
-/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

/-- One step of the search on 32 rows. -/
def vstep (t : FVec Ideal S32x1 .f32) (e : IVec S32x1 32) (b : BitVec 32) : IVec S32x1 32 :=
  select (cmpf .olt t (bitcastToFloat .f32 (ori e (broadcast S32x1 b)))) e (ori e (broadcast S32x1 b))

theorem vstep_at (t : FVec Ideal S32x1 .f32) (e : IVec S32x1 32) (b : BitVec 32) (r : Fin 32) :
    vstep t e b (ix2 r 0) = step (t (ix2 r 0)) (e (ix2 r 0)) b := by
  pointwise [vstep, step]

/-- The search on 32 rows. -/
def vsearch (t : FVec Ideal S32x1 .f32) : IVec S32x1 32 :=
  vstep t (vstep t (vstep t (vstep t (vstep t (vstep t (vstep t (vstep t (broadcast S32x1 0#32) 1073741824#32) 536870912#32)
    268435456#32) 134217728#32) 67108864#32) 33554432#32) 16777216#32) 8388608#32

theorem vsearch_at (t : FVec Ideal S32x1 .f32) (r : Fin 32) : vsearch t (ix2 r 0) = search (t (ix2 r 0)) := by
  simp only [vsearch, vstep_at, search]
  rfl

/-- The scales of 32 rows with fields `e`. -/
def vscale (e : IVec S32x1 32) : FVec Ideal S32x1 .f32 :=
  select (cmpi .eq e (broadcast S32x1 0#32)) (broadcast S32x1 (Scalar.ofBits .f32 0x3F800000#32 : Ideal .f32))
    (bitcastToFloat .f32 (addi e (broadcast S32x1 8388608#32)))

/-- The inverse scales of 32 rows with fields `e`. -/
def vinv (e : IVec S32x1 32) : FVec Ideal S32x1 .f32 :=
  select (cmpi .eq e (broadcast S32x1 0#32)) (broadcast S32x1 (Scalar.ofBits .f32 0x3F800000#32 : Ideal .f32))
    (bitcastToFloat .f32 (subi (broadcast S32x1 2122317824#32) e))

theorem select_eq {α : Type} (a b : BitVec 32) (x y : α) :
    Scalar.select (IntOp.cmpi .eq a b) x y = if a = b then x else y := by
  by_cases h : a = b
  · simp [Scalar.select, IntOp.cmpi, h]
  · have h' : (a == b) = false := by simpa using h
    simp [Scalar.select, IntOp.cmpi, h, h']

theorem vscale_at (t : FVec Ideal S32x1 .f32) (r : Fin 32) : vscale (vsearch t) (ix2 r 0) = scaleOf (t (ix2 r 0)) := by
  pointwise [vscale]
  rw [vsearch_at, select_eq]; rfl

theorem vinv_at (t : FVec Ideal S32x1 .f32) (r : Fin 32) : vinv (vsearch t) (ix2 r 0) = invOf (t (ix2 r 0)) := by
  pointwise [vinv]
  rw [vsearch_at, select_eq]; rfl

/-- The codes of 32 rows of modulated activations `h` with fields `e`. -/
def vcodes (h : FVec Ideal S32x1152 .f32) (e : IVec S32x1 32) : FVec Ideal S1x1x32x1152 .fp8e4m3 :=
  k0_pay13 (minimumf (broadcast S32x1152 (Scalar.ofBits .f32 0x43E00000#32 : Ideal .f32))
    (maximumf (broadcast S32x1152 (Scalar.ofBits .f32 0xC3E00000#32 : Ideal .f32))
      (mulf h (broadcastTo S32x1152 (vinv e) broadcasts_S32x1_S32x1152))))

theorem vcodes_at (h : FVec Ideal S32x1152 .f32) (e : IVec S32x1 32) (r : Fin 32) (l : Fin 1152) :
    vcodes h e (ix4 0 0 r l) = codeOf (h (ix2 r l)) (vinv e (ix2 r 0)) := by
  pointwise [vcodes, k0_pay13, codeOf]

variable (v4 v6 : Vec Ideal S1x1x1152 .f32) (x : Vec Ideal S1x1x32x1152 .bf16)

/-- The modulated activations of 32 rows. -/
abbrev hBlk : FVec Ideal S32x1152 .f32 := k0_pay6 (F := Ideal) (k0_pay78 v4) (k0_pay79 v6) x
/-- Their quotients. -/
abbrev qBlk : FVec Ideal S32x1 .f32 := k0_pay7 (F := Ideal) (k0_pay78 v4) (k0_pay79 v6) x
/-- Their codes. -/
def codesBlk : FVec Ideal S1x1x32x1152 .fp8e4m3 := vcodes (hBlk v4 v6 x) (vsearch (qBlk v4 v6 x))
/-- Their scales. -/
def scaleBlk : FVec Ideal S32x1 .f32 := vscale (vsearch (qBlk v4 v6 x))

/-- Row `r` of the block of activations. -/
abbrev xrow (r : Fin 32) : Fin 1152 → EReal := fun j => x (ix4 0 0 r j)
/-- A one-row operand as a function. -/
abbrev row1 (v : Vec Ideal S1x1x1152 .f32) : Fin 1152 → EReal := fun j => v (ix3 0 0 j)

theorem hBlk_at (r : Fin 32) (l : Fin 1152) : hBlk v4 v6 x (ix2 r l) = rowH (xrow x r) (row1 v6) (row1 v4) l := by
  pointwise [hBlk, k0_pay6, k0_pay78, k0_pay79, rowH, rowMean]

theorem qBlk_at (r : Fin 32) : qBlk v4 v6 x (ix2 r 0) = rowQ (rowH (xrow x r) (row1 v6) (row1 v4)) := by
  pointwise [qBlk, k0_pay7]
  simp only [hBlk_at, rowQ, rowMax]

theorem codesBlk_at (r : Fin 32) (l : Fin 1152) :
    codesBlk v4 v6 x (ix4 0 0 r l) = rowCodes (xrow x r) (row1 v6) (row1 v4) l := by
  rw [codesBlk, vcodes_at, vinv_at, hBlk_at, qBlk_at]; rfl

theorem scaleBlk_at (r : Fin 32) : scaleBlk v4 v6 x (ix2 r 0) = rowScale (xrow x r) (row1 v6) (row1 v4) := by
  rw [scaleBlk, vscale_at, qBlk_at]; rfl

end Cert.KernelIdeal.Rows
-- ==== Proof.Piece.lean ====
/-
  What one trip of a quantising loop stores: four blocks of 32 rows of codes and a row of 128 scales, each a part of one
  function of the point's blocks (`codesG`, `scalesG`).
-/
module

public import proofs.«01_k».proof.Proof.Row
public import Idealize.ShloMosaic.Lib.Pipeline.ReadBack

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

/-- The codes of a point's block, from its blocks of activations `X`, shifts `sh` and gains `gn`. -/
def codesG (X : S1x2x1024x1152.Idx → EReal) (sh gn : S1x2x1152.Idx → EReal) (y : S1x2x1024x1152.Idx) : EReal :=
  rowCodes (fun j => X (ix4 0 (y 1 : Fin 2) (y 2 : Fin 1024) j)) (fun j => gn (ix3 0 (y 1 : Fin 2) j))
    (fun j => sh (ix3 0 (y 1 : Fin 2) j)) (y 3 : Fin 1152)

/-- The scales of a point's block. -/
def scalesG (X : S1x2x1024x1152.Idx → EReal) (sh gn : S1x2x1152.Idx → EReal) (y : S1x2x8x128.Idx) : EReal :=
  rowScale (fun j => X (ix4 0 (y 1 : Fin 2) (⟨128 * (y 2).val + (y 3).val, by
      have h2 : (y 2).val < 8 := (y 2).isLt
      have h3 : (y 3).val < 128 := (y 3).isLt
      omega⟩ : Fin 1024) j))
    (fun j => gn (ix3 0 (y 1 : Fin 2) j)) (fun j => sh (ix3 0 (y 1 : Fin 2) j))

theorem ld_row (X : S1x2x1024x1152.Idx → EReal) (p : Fin 2) (n : Nat) (hn : n + 32 ≤ 1024) (off : Fin 4 → Nat)
    (hoff : off = ![0, p.val, n, 0]) (h1 : ∀ a, off a + S1x1x32x1152.size a ≤ S1x2x1024x1152.size a) (r : Fin 32) (j : Fin 1152) :
    View.ld (S := S1x2x1024x1152) (Val := Elt Ideal) (e' := .bf16) X (Rect.unit off S1x1x32x1152.size h1) (ix4 0 0 r j)
      = X (ix4 0 p ⟨n + r.val, by omega⟩ j) := by
  subst hoff
  refine View.ld_unit_apply_of _ _ _ _ _ _ fun a => ?_
  fin_cases a <;> simp [ix4]

theorem codes_piece (X : S1x2x1024x1152.Idx → EReal) (sh gn : S1x2x1152.Idx → EReal) (p : Fin 2) (n : Nat) (hn : n + 32 ≤ 1024)
    (v4 v6 : Vec Ideal S1x1x1152 .f32) (hv4 : ∀ j, v4 (ix3 0 0 j) = sh (ix3 0 p j)) (hv6 : ∀ j, v6 (ix3 0 0 j) = gn (ix3 0 p j))
    (off : Fin 4 → Nat) (hoff : off = ![0, p.val, n, 0])
    (h1 h2 : ∀ a, off a + S1x1x32x1152.size a ≤ S1x2x1024x1152.size a)
    (pay : FVec Ideal S1x1x32x1152 .fp8e4m3)
    (hpay : pay = codesBlk v4 v6 (View.ld (S := S1x2x1024x1152) (Val := Elt Ideal) (e' := .bf16) X (Rect.unit off S1x1x32x1152.size h1))) :
    ∀ x : (Rect.unit (s := S1x2x1024x1152) off S1x1x32x1152.size h2).shape.Idx,
      pay x = codesG X sh gn ((Rect.unit (s := S1x2x1024x1152) off S1x1x32x1152.size h2).emb x) := by
  intro x
  obtain ⟨r, l, rfl⟩ : ∃ (r : Fin 32) (l : Fin 1152), x = ix4 0 0 r l :=
    ⟨x 2, x 3, by
      funext a; apply Fin.ext; fin_cases a
      · exact Nat.lt_one_iff.mp (x 0).isLt
      · exact Nat.lt_one_iff.mp (x 1).isLt
      · rfl
      · rfl⟩
  have he : (Rect.unit (s := S1x2x1024x1152) off S1x1x32x1152.size h2).emb (ix4 0 0 r l) = ix4 0 p ⟨n + r.val, by omega⟩ l := by
    subst hoff
    funext a; apply Fin.ext
    refine (Rect.idx_unit_val _ _ h2 _ a).trans ?_
    fin_cases a <;> simp [ix4]
  rw [he, hpay, codesBlk_at]
  have e1 : (fun j => View.ld (S := S1x2x1024x1152) (Val := Elt Ideal) (e' := .bf16) X (Rect.unit off S1x1x32x1152.size h1) (ix4 0 0 r j))
      = fun j => X (ix4 0 p ⟨n + r.val, by omega⟩ j) := funext fun j => ld_row X p n hn off hoff h1 r j
  have e2 : row1 v4 = fun j => sh (ix3 0 p j) := funext hv4
  have e3 : row1 v6 = fun j => gn (ix3 0 p j) := funext hv6
  show rowCodes (fun j => View.ld (S := S1x2x1024x1152) (Val := Elt Ideal) (e' := .bf16) X (Rect.unit off S1x1x32x1152.size h1) (ix4 0 0 r j)) _ _ l = _
  rw [e1, e2, e3]; rfl

/-- The scales of one block's rows. -/
theorem scale_rows (X : S1x2x1024x1152.Idx → EReal) (sh gn : S1x2x1152.Idx → EReal) (p : Fin 2) (n : Nat) (hn : n + 32 ≤ 1024)
    (v4 v6 : Vec Ideal S1x1x1152 .f32) (hv4 : ∀ j, v4 (ix3 0 0 j) = sh (ix3 0 p j)) (hv6 : ∀ j, v6 (ix3 0 0 j) = gn (ix3 0 p j))
    (off : Fin 4 → Nat) (hoff : off = ![0, p.val, n, 0]) (h1 : ∀ a, off a + S1x1x32x1152.size a ≤ S1x2x1024x1152.size a) (r : Fin 32) :
    scaleBlk v4 v6 (View.ld (S := S1x2x1024x1152) (Val := Elt Ideal) (e' := .bf16) X (Rect.unit off S1x1x32x1152.size h1)) (ix2 r 0)
      = rowScale (fun j => X (ix4 0 p ⟨n + r.val, by omega⟩ j)) (fun j => gn (ix3 0 p j)) (fun j => sh (ix3 0 p j)) := by
  rw [scaleBlk_at]
  have e1 : (fun j => View.ld (S := S1x2x1024x1152) (Val := Elt Ideal) (e' := .bf16) X (Rect.unit off S1x1x32x1152.size h1) (ix4 0 0 r j))
      = fun j => X (ix4 0 p ⟨n + r.val, by omega⟩ j) := funext fun j => ld_row X p n hn off hoff h1 r j
  have e2 : row1 v4 = fun j => sh (ix3 0 p j) := funext hv4
  have e3 : row1 v6 = fun j => gn (ix3 0 p j) := funext hv6
  show rowScale (fun j => View.ld (S := S1x2x1024x1152) (Val := Elt Ideal) (e' := .bf16) X (Rect.unit off S1x1x32x1152.size h1) (ix4 0 0 r j)) _ _ = _
  rw [e1, e2, e3]

/-- The stored row of scales at a lane: the scale of the lane's block at the lane's row. -/
theorem pay82_at (v1 v2 v3 : FVec Ideal S32x1 .f32) (e : IVec S32x1 32) (l : Fin 128) :
    k0_pay82 v1 v2 v3 e 8388608#32 (ix4 0 0 0 l) =
      if h : l.val < 32 then v1 (ix2 ⟨l.val, h⟩ 0)
      else if h : l.val - 32 < 32 then v2 (ix2 ⟨l.val - 32, h⟩ 0)
      else if h : l.val - 64 < 32 then v3 (ix2 ⟨l.val - 64, h⟩ 0)
      else vscale e (ix2 ⟨l.val - 96, by omega⟩ 0) := by
  have e1 : l.val - 32 - 32 = l.val - 64 := by omega
  have e2 : l.val - 64 - 32 = l.val - 96 := by omega
  pointwise [k0_pay82, vscale, k0_pay80]
  simp only [e1, e2]

theorem scales_piece (X : S1x2x1024x1152.Idx → EReal) (sh gn : S1x2x1152.Idx → EReal) (p : Fin 2) (k : Nat) (hk : k < 8)
    (v4 v6 : Vec Ideal S1x1x1152 .f32) (hv4 : ∀ j, v4 (ix3 0 0 j) = sh (ix3 0 p j)) (hv6 : ∀ j, v6 (ix3 0 0 j) = gn (ix3 0 p j))
    (off : Fin 4 → Nat) (hoff : off = ![0, p.val, k, 0]) (h2 : ∀ a, off a + S1x1x1x128.size a ≤ S1x2x8x128.size a)
    (o0 o1 o2 o3 : Fin 4 → Nat) (ho0 : o0 = ![0, p.val, 128 * k, 0]) (ho1 : o1 = ![0, p.val, 128 * k + 32, 0])
    (ho2 : o2 = ![0, p.val, 128 * k + 64, 0]) (ho3 : o3 = ![0, p.val, 128 * k + 96, 0])
    (i0 : ∀ a, o0 a + S1x1x32x1152.size a ≤ S1x2x1024x1152.size a) (i1 : ∀ a, o1 a + S1x1x32x1152.size a ≤ S1x2x1024x1152.size a)
    (i2 : ∀ a, o2 a + S1x1x32x1152.size a ≤ S1x2x1024x1152.size a) (i3 : ∀ a, o3 a + S1x1x32x1152.size a ≤ S1x2x1024x1152.size a)
    (pay : FVec Ideal S1x1x1x128 .f32)
    (hpay : pay = k0_pay82
      (scaleBlk v4 v6 (View.ld (S := S1x2x1024x1152) (Val := Elt Ideal) (e' := .bf16) X (Rect.unit o0 S1x1x32x1152.size i0)))
      (scaleBlk v4 v6 (View.ld (S := S1x2x1024x1152) (Val := Elt Ideal) (e' := .bf16) X (Rect.unit o1 S1x1x32x1152.size i1)))
      (scaleBlk v4 v6 (View.ld (S := S1x2x1024x1152) (Val := Elt Ideal) (e' := .bf16) X (Rect.unit o2 S1x1x32x1152.size i2)))
      (vsearch (qBlk v4 v6 (View.ld (S := S1x2x1024x1152) (Val := Elt Ideal) (e' := .bf16) X (Rect.unit o3 S1x1x32x1152.size i3)))) 8388608#32) :
    ∀ x : (Rect.unit (s := S1x2x8x128) off S1x1x1x128.size h2).shape.Idx,
      pay x = scalesG X sh gn ((Rect.unit (s := S1x2x8x128) off S1x1x1x128.size h2).emb x) := by
  intro x
  obtain ⟨l, rfl⟩ : ∃ (l : Fin 128), x = ix4 0 0 0 l :=
    ⟨x 3, by
      funext a; apply Fin.ext; fin_cases a
      · exact Nat.lt_one_iff.mp (x 0).isLt
      · exact Nat.lt_one_iff.mp (x 1).isLt
      · exact Nat.lt_one_iff.mp (x 2).isLt
      · rfl⟩
  have he : (Rect.unit (s := S1x2x8x128) off S1x1x1x128.size h2).emb (ix4 0 0 0 l) = ix4 0 p ⟨k, hk⟩ l := by
    subst hoff
    funext a; apply Fin.ext
    refine (Rect.idx_unit_val _ _ h2 _ a).trans ?_
    fin_cases a <;> simp [ix4]
  rw [he, hpay, pay82_at]
  have key : ∀ (m : Nat) (hm : m < 1024), m = 128 * k + l.val →
      rowScale (fun j => X (ix4 0 p ⟨m, hm⟩ j)) (fun j => gn (ix3 0 p j)) (fun j => sh (ix3 0 p j))
        = scalesG X sh gn (ix4 0 p ⟨k, hk⟩ l) := by
    intro m hm e; subst e; rfl
  split_ifs with a b c
  · rw [scale_rows X sh gn p _ (by omega) v4 v6 hv4 hv6 o0 ho0 i0]; exact key _ _ rfl
  · rw [scale_rows X sh gn p _ (by omega) v4 v6 hv4 hv6 o1 ho1 i1]; exact key _ _ (by show 128 * k + 32 + (l.val - 32) = _; omega)
  · rw [scale_rows X sh gn p _ (by omega) v4 v6 hv4 hv6 o2 ho2 i2]; exact key _ _ (by show 128 * k + 64 + (l.val - 64) = _; omega)
  · exact (scale_rows X sh gn p _ (by omega) v4 v6 hv4 hv6 o3 ho3 i3 _).trans
      (key _ _ (by show 128 * k + 96 + (l.val - 96) = _; omega))

end Cert.KernelIdeal.Rows
-- ==== Proof.Trip.lean ====
/-
  The pieces one trip of each quantising loop stores, and all its trips, as parts of `codesG` and `scalesG`.
-/
module

public import proofs.«01_k».proof.Proof.Gen.KernelIdeal.Loops
public import proofs.«01_k».proof.Proof.Piece

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

theorem piecesOf_append {s : Shape} {e : EltTy} {G : s.Idx → Elt Ideal e} :
    ∀ {L L' : List (View.Piece (Elt Ideal) s e)}, View.PiecesOf G L → View.PiecesOf G L' → View.PiecesOf G (L ++ L')
  | [], _, _, h' => h'
  | _ :: _, _, h, h' => ⟨h.1, piecesOf_append h.2 h'⟩

theorem off3_0 : ∀ k : Fin k0_t1_loop.trips, k0_off3 k 0#32 = ![0, 0, 128 * k.val + 0, 0] := by decide +kernel

theorem off3_32 : ∀ k : Fin k0_t1_loop.trips, k0_off3 k 32#32 = ![0, 0, 128 * k.val + 32, 0] := by decide +kernel

theorem off3_64 : ∀ k : Fin k0_t1_loop.trips, k0_off3 k 64#32 = ![0, 0, 128 * k.val + 64, 0] := by decide +kernel

theorem off3_96 : ∀ k : Fin k0_t1_loop.trips, k0_off3 k 96#32 = ![0, 0, 128 * k.val + 96, 0] := by decide +kernel

theorem off4_eq : ∀ k : Fin k0_t1_loop.trips, k0_off4 k = ![0, 0, k.val, 0] := by decide +kernel

theorem trip1_pieces (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v4 : Vec Ideal S1x1x1152 .f32) (v6 : Vec Ideal S1x1x1152 .f32) (X_arg3 : BufTy.Contents (Elt Ideal) arg3.view.ty) (k : Fin k0_t1_loop.trips)
    (sh gn : S1x2x1152.Idx → EReal)
    (hv4 : ∀ j, v4 (ix3 0 0 j) = sh (ix3 0 0 j)) (hv6 : ∀ j, v6 (ix3 0 0 j) = gn (ix3 0 0 j)) :
    View.PiecesOf (codesG (arg3.view.read (Elt Ideal) X_arg3) sh gn) (trip_k0_t1 𝒱 c bd i arg2 harg2 arg3 harg3 arg4 harg4 arg5 harg5 arg6 harg6 arg7 harg7 arg8 harg8 arg9 harg9 arg10 harg10 arg11 harg11 arg12 harg12 arg13 harg13 v4 v6 X_arg3 k).1 := by
  have hk : k.val < 8 := k.isLt
  unfold trip_k0_t1
  dsimp only
  sl_unfold_run_names
  refine ⟨?_, ?_, ?_, ?_, trivial⟩ <;> dsimp only
  · exact codes_piece _ sh gn 0 (128 * k.val + 96) (by omega) v4 v6 hv4 hv6 _ (off3_96 k) _ _ _ rfl
  · exact codes_piece _ sh gn 0 (128 * k.val + 64) (by omega) v4 v6 hv4 hv6 _ (off3_64 k) _ _ _ rfl
  · exact codes_piece _ sh gn 0 (128 * k.val + 32) (by omega) v4 v6 hv4 hv6 _ (off3_32 k) _ _ _ rfl
  · exact codes_piece _ sh gn 0 (128 * k.val + 0) (by omega) v4 v6 hv4 hv6 _ (off3_0 k) _ _ _ rfl

theorem trip1_scales (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v4 : Vec Ideal S1x1x1152 .f32) (v6 : Vec Ideal S1x1x1152 .f32) (X_arg3 : BufTy.Contents (Elt Ideal) arg3.view.ty) (k : Fin k0_t1_loop.trips)
    (sh gn : S1x2x1152.Idx → EReal)
    (hv4 : ∀ j, v4 (ix3 0 0 j) = sh (ix3 0 0 j)) (hv6 : ∀ j, v6 (ix3 0 0 j) = gn (ix3 0 0 j)) :
    View.PiecesOf (scalesG (arg3.view.read (Elt Ideal) X_arg3) sh gn) (trip_k0_t1 𝒱 c bd i arg2 harg2 arg3 harg3 arg4 harg4 arg5 harg5 arg6 harg6 arg7 harg7 arg8 harg8 arg9 harg9 arg10 harg10 arg11 harg11 arg12 harg12 arg13 harg13 v4 v6 X_arg3 k).2.1 := by
  have hk : k.val < 8 := k.isLt
  unfold trip_k0_t1
  dsimp only
  sl_unfold_run_names
  refine ⟨?_, trivial⟩; dsimp only
  exact scales_piece _ sh gn 0 k.val hk v4 v6 hv4 hv6 _ (off4_eq k) _ _ _ _ _ (off3_0 k) (off3_32 k) (off3_64 k)
    (off3_96 k) (k0_off3_inb k 0) (k0_off3_inb k 1) (k0_off3_inb k 2) (k0_off3_inb k 3) _ rfl

theorem pb1_pieces (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v4 : Vec Ideal S1x1x1152 .f32) (v6 : Vec Ideal S1x1x1152 .f32) (X_arg3 : BufTy.Contents (Elt Ideal) arg3.view.ty)
    (sh gn : S1x2x1152.Idx → EReal)
    (hv4 : ∀ j, v4 (ix3 0 0 j) = sh (ix3 0 0 j)) (hv6 : ∀ j, v6 (ix3 0 0 j) = gn (ix3 0 0 j)) :
    ∀ k : Nat, k ≤ k0_t1_loop.trips → View.PiecesOf (codesG (arg3.view.read (Elt Ideal) X_arg3) sh gn) (pb_k0_t1 𝒱 c bd i arg2 harg2 arg3 harg3 arg4 harg4 arg5 harg5 arg6 harg6 arg7 harg7 arg8 harg8 arg9 harg9 arg10 harg10 arg11 harg11 arg12 harg12 arg13 harg13 v4 v6 X_arg3 k).1
      ∧ View.PiecesOf (scalesG (arg3.view.read (Elt Ideal) X_arg3) sh gn) (pb_k0_t1 𝒱 c bd i arg2 harg2 arg3 harg3 arg4 harg4 arg5 harg5 arg6 harg6 arg7 harg7 arg8 harg8 arg9 harg9 arg10 harg10 arg11 harg11 arg12 harg12 arg13 harg13 v4 v6 X_arg3 k).2
  | 0, _ => ⟨trivial, trivial⟩
  | k + 1, hk => by
    have ih := pb1_pieces 𝒱 c bd i arg2 harg2 arg3 harg3 arg4 harg4 arg5 harg5 arg6 harg6 arg7 harg7 arg8 harg8 arg9 harg9 arg10 harg10 arg11 harg11 arg12 harg12 arg13 harg13 v4 v6 X_arg3 sh gn hv4 hv6 k (by omega)
    have e := pb_k0_t1_succ 𝒱 c bd i arg2 harg2 arg3 harg3 arg4 harg4 arg5 harg5 arg6 harg6 arg7 harg7 arg8 harg8 arg9 harg9 arg10 harg10 arg11 harg11 arg12 harg12 arg13 harg13 v4 v6 X_arg3 ⟨k, hk⟩
    rw [show (⟨k, hk⟩ : Fin k0_t1_loop.trips).val + 1 = k + 1 from rfl] at e
    rw [e]
    exact ⟨piecesOf_append (trip1_pieces 𝒱 c bd i arg2 harg2 arg3 harg3 arg4 harg4 arg5 harg5 arg6 harg6 arg7 harg7 arg8 harg8 arg9 harg9 arg10 harg10 arg11 harg11 arg12 harg12 arg13 harg13 v4 v6 X_arg3 ⟨k, hk⟩ sh gn hv4 hv6) ih.1,
      piecesOf_append (trip1_scales 𝒱 c bd i arg2 harg2 arg3 harg3 arg4 harg4 arg5 harg5 arg6 harg6 arg7 harg7 arg8 harg8 arg9 harg9 arg10 harg10 arg11 harg11 arg12 harg12 arg13 harg13 v4 v6 X_arg3 ⟨k, hk⟩ sh gn hv4 hv6) ih.2⟩

theorem off5_0 : ∀ k : Fin k0_t2_loop.trips, k0_off5 k 0#32 = ![0, 1, 128 * k.val + 0, 0] := by decide +kernel

theorem off5_32 : ∀ k : Fin k0_t2_loop.trips, k0_off5 k 32#32 = ![0, 1, 128 * k.val + 32, 0] := by decide +kernel

theorem off5_64 : ∀ k : Fin k0_t2_loop.trips, k0_off5 k 64#32 = ![0, 1, 128 * k.val + 64, 0] := by decide +kernel

theorem off5_96 : ∀ k : Fin k0_t2_loop.trips, k0_off5 k 96#32 = ![0, 1, 128 * k.val + 96, 0] := by decide +kernel

theorem off6_eq : ∀ k : Fin k0_t2_loop.trips, k0_off6 k = ![0, 1, k.val, 0] := by decide +kernel

theorem trip2_pieces (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v11 : Vec Ideal S1x1x1152 .f32) (v13 : Vec Ideal S1x1x1152 .f32) (X_arg3 : BufTy.Contents (Elt Ideal) arg3.view.ty) (k : Fin k0_t2_loop.trips)
    (sh gn : S1x2x1152.Idx → EReal)
    (hv4 : ∀ j, v11 (ix3 0 0 j) = sh (ix3 0 1 j)) (hv6 : ∀ j, v13 (ix3 0 0 j) = gn (ix3 0 1 j)) :
    View.PiecesOf (codesG (arg3.view.read (Elt Ideal) X_arg3) sh gn) (trip_k0_t2 𝒱 c bd i arg2 harg2 arg3 harg3 arg4 harg4 arg5 harg5 arg6 harg6 arg7 harg7 arg8 harg8 arg9 harg9 arg10 harg10 arg11 harg11 arg12 harg12 arg13 harg13 v11 v13 X_arg3 k).1 := by
  have hk : k.val < 8 := k.isLt
  unfold trip_k0_t2
  dsimp only
  sl_unfold_run_names
  refine ⟨?_, ?_, ?_, ?_, trivial⟩ <;> dsimp only
  · exact codes_piece _ sh gn 1 (128 * k.val + 96) (by omega) v11 v13 hv4 hv6 _ (off5_96 k) _ _ _ rfl
  · exact codes_piece _ sh gn 1 (128 * k.val + 64) (by omega) v11 v13 hv4 hv6 _ (off5_64 k) _ _ _ rfl
  · exact codes_piece _ sh gn 1 (128 * k.val + 32) (by omega) v11 v13 hv4 hv6 _ (off5_32 k) _ _ _ rfl
  · exact codes_piece _ sh gn 1 (128 * k.val + 0) (by omega) v11 v13 hv4 hv6 _ (off5_0 k) _ _ _ rfl

theorem trip2_scales (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v11 : Vec Ideal S1x1x1152 .f32) (v13 : Vec Ideal S1x1x1152 .f32) (X_arg3 : BufTy.Contents (Elt Ideal) arg3.view.ty) (k : Fin k0_t2_loop.trips)
    (sh gn : S1x2x1152.Idx → EReal)
    (hv4 : ∀ j, v11 (ix3 0 0 j) = sh (ix3 0 1 j)) (hv6 : ∀ j, v13 (ix3 0 0 j) = gn (ix3 0 1 j)) :
    View.PiecesOf (scalesG (arg3.view.read (Elt Ideal) X_arg3) sh gn) (trip_k0_t2 𝒱 c bd i arg2 harg2 arg3 harg3 arg4 harg4 arg5 harg5 arg6 harg6 arg7 harg7 arg8 harg8 arg9 harg9 arg10 harg10 arg11 harg11 arg12 harg12 arg13 harg13 v11 v13 X_arg3 k).2.1 := by
  have hk : k.val < 8 := k.isLt
  unfold trip_k0_t2
  dsimp only
  sl_unfold_run_names
  refine ⟨?_, trivial⟩; dsimp only
  exact scales_piece _ sh gn 1 k.val hk v11 v13 hv4 hv6 _ (off6_eq k) _ _ _ _ _ (off5_0 k) (off5_32 k) (off5_64 k)
    (off5_96 k) (k0_off5_inb k 0) (k0_off5_inb k 1) (k0_off5_inb k 2) (k0_off5_inb k 3) _ rfl

theorem pb2_pieces (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v11 : Vec Ideal S1x1x1152 .f32) (v13 : Vec Ideal S1x1x1152 .f32) (X_arg3 : BufTy.Contents (Elt Ideal) arg3.view.ty)
    (sh gn : S1x2x1152.Idx → EReal)
    (hv4 : ∀ j, v11 (ix3 0 0 j) = sh (ix3 0 1 j)) (hv6 : ∀ j, v13 (ix3 0 0 j) = gn (ix3 0 1 j)) :
    ∀ k : Nat, k ≤ k0_t2_loop.trips → View.PiecesOf (codesG (arg3.view.read (Elt Ideal) X_arg3) sh gn) (pb_k0_t2 𝒱 c bd i arg2 harg2 arg3 harg3 arg4 harg4 arg5 harg5 arg6 harg6 arg7 harg7 arg8 harg8 arg9 harg9 arg10 harg10 arg11 harg11 arg12 harg12 arg13 harg13 v11 v13 X_arg3 k).1
      ∧ View.PiecesOf (scalesG (arg3.view.read (Elt Ideal) X_arg3) sh gn) (pb_k0_t2 𝒱 c bd i arg2 harg2 arg3 harg3 arg4 harg4 arg5 harg5 arg6 harg6 arg7 harg7 arg8 harg8 arg9 harg9 arg10 harg10 arg11 harg11 arg12 harg12 arg13 harg13 v11 v13 X_arg3 k).2
  | 0, _ => ⟨trivial, trivial⟩
  | k + 1, hk => by
    have ih := pb2_pieces 𝒱 c bd i arg2 harg2 arg3 harg3 arg4 harg4 arg5 harg5 arg6 harg6 arg7 harg7 arg8 harg8 arg9 harg9 arg10 harg10 arg11 harg11 arg12 harg12 arg13 harg13 v11 v13 X_arg3 sh gn hv4 hv6 k (by omega)
    have e := pb_k0_t2_succ 𝒱 c bd i arg2 harg2 arg3 harg3 arg4 harg4 arg5 harg5 arg6 harg6 arg7 harg7 arg8 harg8 arg9 harg9 arg10 harg10 arg11 harg11 arg12 harg12 arg13 harg13 v11 v13 X_arg3 ⟨k, hk⟩
    rw [show (⟨k, hk⟩ : Fin k0_t2_loop.trips).val + 1 = k + 1 from rfl] at e
    rw [e]
    exact ⟨piecesOf_append (trip2_pieces 𝒱 c bd i arg2 harg2 arg3 harg3 arg4 harg4 arg5 harg5 arg6 harg6 arg7 harg7 arg8 harg8 arg9 harg9 arg10 harg10 arg11 harg11 arg12 harg12 arg13 harg13 v11 v13 X_arg3 ⟨k, hk⟩ sh gn hv4 hv6) ih.1,
      piecesOf_append (trip2_scales 𝒱 c bd i arg2 harg2 arg3 harg3 arg4 harg4 arg5 harg5 arg6 harg6 arg7 harg7 arg8 harg8 arg9 harg9 arg10 harg10 arg11 harg11 arg12 harg12 arg13 harg13 v11 v13 X_arg3 ⟨k, hk⟩ sh gn hv4 hv6) ih.2⟩

end Cert.KernelIdeal.Rows
-- ==== Proof.Tail.lean ====
/-
  The tail of the kernel at an index: the product for 128 tokens, the guided mixture, and its placement into two rows of the
  image by a lane gather of the product and of the product rotated by four rows.
-/
module

public import proofs.«01_k».proof.Proof.Row

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

theorem pay66_at (v1 : Elt Ideal .f32) (v18 v20 : Vec Ideal S16x1 .f32) (v32 : Vec Ideal S16x1152 .fp8e4m3)
    (v35 : Vec Ideal S1x1x128x1152 .fp8e4m3) (v39 : Vec Ideal S1x1x1x128 .f32) (v50 : Vec Ideal S1x1x128x1152 .fp8e4m3)
    (v54 : Vec Ideal S1x1x1x128 .f32) (o : Fin 16) (l : Fin 128) :
    k0_pay66 v1 (k0_pay88 v18) (k0_pay89 v20) v32 v35 v39 v32 v50 v54 (ix2 o l) =
      mixOf v1
        (yOf (fun k => v32 (ix2 o k)) (fun k => v35 (ix4 0 0 l k)) (v39 (ix4 0 0 0 l)) (v18 (ix2 o 0)) (v20 (ix2 o 0)))
        (yOf (fun k => v32 (ix2 o k)) (fun k => v50 (ix4 0 0 l k)) (v54 (ix4 0 0 0 l)) (v18 (ix2 o 0)) (v20 (ix2 o 0))) := by
  pointwise [k0_pay66, k0_pay88, k0_pay89]
  rfl

/-- The lanes' numbers, halved: the column of the token a lane shows. -/
abbrev laneV : IVec S8x128 32 := iota .tc S8x128 32 [1] iota_S8x128_d1_w32
/-- The low bit of the lanes' numbers. -/
abbrev bitV : IVec S8x128 32 := andi laneV (broadcast S8x128 1#32)
/-- Zeros. -/
abbrev zeroV : IVec S8x128 32 := broadcast S8x128 0#32

theorem even_at : ∀ l : Fin 128, IntOp.cmpi .eq (IntOp.andi (BitVec.ofNat 32 l.val) 1#32) 0#32 = BitVec.ofBool (l.val % 2 == 0) := by
  decide +kernel

theorem sel_even {α : Type} (l : Fin 128) (a b x : α) (he : l.val % 2 = 0 → a = x) (ho : l.val % 2 = 1 → b = x) :
    Scalar.select (IntOp.cmpi .eq (IntOp.andi (BitVec.ofNat 32 l.val) 1#32) 0#32) a b = x := by
  rw [even_at l]
  rcases Nat.mod_two_eq_zero_or_one l.val with q | q
  · rw [← he q, q]; rfl
  · rw [← ho q, q]; rfl

/-- A lane's gather index: half its number plus `a`, wrapped. -/
def gidx (n a : BitVec 32) : BitVec 32 :=
  Scalar.select (IntOp.cmpi .slt (IntOp.addi (IntOp.shrsi .vector n 1#32) a) 0#32)
    (IntOp.addi (IntOp.addi (IntOp.shrsi .vector n 1#32) a) 128#32) (IntOp.addi (IntOp.shrsi .vector n 1#32) a)

theorem gidx0 : ∀ l : Fin 128, (gidx (BitVec.ofNat 32 l.val) 0#32).toNat % 128 = l.val / 2 := by decide +kernel
theorem gidx64 : ∀ l : Fin 128, (gidx (BitVec.ofNat 32 l.val) 64#32).toNat % 128 = l.val / 2 + 64 := by decide +kernel

/-- Rows 0 to 7 of the product. -/
abbrev lowHalf (V : FVec Ideal S16x128 .f32) : FVec Ideal S8x128 .f32 := extractStridedSlice S8x128 ![0, 0] V slices_S16x128_o0_0_S8x128

/-- The image row made of the product's rows 0 to 7. -/
abbrev img0 (V : FVec Ideal S16x128 .f32) : FVec Ideal S4x256 .f32 :=
  k0_pay69 (k0_pay1 bitV zeroV) (k0_pay2 laneV) (lowHalf V) (dynamicRotate 0 4#32 none (lowHalf V) rotates_S8x128_d0) 0#32
/-- The image row made of the product's rows 8 to 15. -/
abbrev img1 (V : FVec Ideal S16x128 .f32) : FVec Ideal S4x256 .f32 :=
  k0_pay3 bitV zeroV (k0_pay73 V) (k0_pay74 V) (k0_pay75 (k0_pay1 bitV zeroV) (k0_pay2 laneV) V) (k0_pay76 (k0_pay2 laneV))
    (k0_pay77 (k0_pay2 laneV))

theorem img0_at (V : FVec Ideal S16x128 .f32) (c : Fin 4) (L : Fin 256) :
    img0 V (ix2 c L) = V (ix2 ⟨8 * 0 + 4 * (L.val % 2) + c.val, by omega⟩ ⟨L.val / 2, by omega⟩) := by
  have hk : ∀ (i i' : Fin 16) (j j' : Fin 128), i.val = i'.val → j.val = j'.val → V (ix2 i j) = V (ix2 i' j') := by
    intro i i' j j' a b; rw [Fin.ext a, Fin.ext b]
  pointwise [img0, lowHalf, k0_pay69, k0_pay1, k0_pay2]
  split_ifs with h h2
  · have g := gidx0 ⟨L.val, h⟩
    simp only [gidx] at g
    refine sel_even ⟨L.val, h⟩ _ _ _ (fun q => hk _ _ _ _ ?_ g) (fun q => hk _ _ _ _ ?_ g)
    · show c.val = 4 * (L.val % 2) + c.val
      dsimp only at q; omega
    · show (c.val + 8 - 4) % 8 = 4 * (L.val % 2) + c.val
      dsimp only at q; omega
  · have g := gidx64 ⟨L.val - 128, by omega⟩
    simp only [gidx] at g
    have g' : (L.val - 128) / 2 + 64 = L.val / 2 := by omega
    refine sel_even ⟨L.val - 128, by omega⟩ _ _ _ (fun q => hk _ _ _ _ ?_ (g.trans g')) (fun q => hk _ _ _ _ ?_ (g.trans g'))
    · show c.val = 4 * (L.val % 2) + c.val
      dsimp only at q; omega
    · show (c.val + 8 - 4) % 8 = 4 * (L.val % 2) + c.val
      dsimp only at q; omega
  · exact absurd rfl h2

theorem img1_at (V : FVec Ideal S16x128 .f32) (c : Fin 4) (L : Fin 256) :
    img1 V (ix2 c L) = V (ix2 ⟨8 * 1 + 4 * (L.val % 2) + c.val, by omega⟩ ⟨L.val / 2, by omega⟩) := by
  have hk : ∀ (i i' : Fin 16) (j j' : Fin 128), i.val = i'.val → j.val = j'.val → V (ix2 i j) = V (ix2 i' j') := by
    intro i i' j j' a b; rw [Fin.ext a, Fin.ext b]
  pointwise [img1, k0_pay3, k0_pay73, k0_pay74, k0_pay75, k0_pay76, k0_pay77, k0_pay1, k0_pay2]
  split_ifs with h h2
  · have g := gidx0 ⟨L.val, h⟩
    simp only [gidx] at g
    refine sel_even ⟨L.val, h⟩ _ _ _ (fun q => hk _ _ _ _ ?_ g) (fun q => hk _ _ _ _ ?_ g)
    · show 8 + c.val = 8 + 4 * (L.val % 2) + c.val
      dsimp only at q; omega
    · show 8 + (c.val + 8 - 4) % 8 = 8 + 4 * (L.val % 2) + c.val
      dsimp only at q; omega
  · have g := gidx64 ⟨L.val - 128, by omega⟩
    simp only [gidx] at g
    have g' : (L.val - 128) / 2 + 64 = L.val / 2 := by omega
    refine sel_even ⟨L.val - 128, by omega⟩ _ _ _ (fun q => hk _ _ _ _ ?_ (g.trans g')) (fun q => hk _ _ _ _ ?_ (g.trans g'))
    · show 8 + c.val = 8 + 4 * (L.val % 2) + c.val
      dsimp only at q; omega
    · show 8 + (c.val + 8 - 4) % 8 = 8 + 4 * (L.val % 2) + c.val
      dsimp only at q; omega
  · exact absurd rfl h2

/-- The mixture of one output `o` at one token of a point's block, from the codes `C` and scales `S` of the block. -/
def vtG (g : EReal) (w : S16x1152.Idx → EReal) (ws b : S16x1.Idx → EReal) (C : S1x2x1024x1152.Idx → EReal)
    (S : S1x2x8x128.Idx → EReal) (o : Fin 16) (t : Fin 1024) : EReal :=
  mixOf g
    (yOf (fun k => w (ix2 o k)) (fun k => C (ix4 0 0 t k)) (S (ix4 0 0 ⟨t.val / 128, by omega⟩ ⟨t.val % 128, by omega⟩)) (ws (ix2 o 0)) (b (ix2 o 0)))
    (yOf (fun k => w (ix2 o k)) (fun k => C (ix4 0 1 t k)) (S (ix4 0 1 ⟨t.val / 128, by omega⟩ ⟨t.val % 128, by omega⟩)) (ws (ix2 o 0)) (b (ix2 o 0)))

/-- The mixtures laid out as rows of the image. -/
def vG (vt : Fin 16 → Fin 1024 → EReal) (y : S1x16x4x256.Idx) : EReal :=
  vt ⟨8 * ((y 1).val % 2) + 4 * ((y 3).val % 2) + (y 2).val, by
      have h2 : (y 2).val < 4 := (y 2).isLt
      omega⟩
    ⟨128 * ((y 1).val / 2) + (y 3).val / 2, by
      have h1 : (y 1).val < 16 := (y 1).isLt
      have h3 : (y 3).val < 256 := (y 3).isLt
      omega⟩

/-- The next latent: the latent plus the step's length times the mixture. -/
def nxtG (dt : EReal) (lat : S1x16x4x256.Idx → EReal) (vt : Fin 16 → Fin 1024 → EReal) (y : S1x16x4x256.Idx) : EReal :=
  lat y + dt * vG vt y

theorem imgVal (vt : Fin 16 → Fin 1024 → EReal) (p : Fin 2) (k : Nat) (hk : k < 8) (V : FVec Ideal S16x128 .f32) (im : FVec Ideal S4x256 .f32)
    (him : ∀ c L, im (ix2 c L) = V (ix2 ⟨8 * p.val + 4 * (L.val % 2) + c.val, by omega⟩ ⟨L.val / 2, by omega⟩))
    (hV : ∀ (o : Fin 16) (l : Fin 128), V (ix2 o l) = vt o ⟨128 * k + l.val, by omega⟩) (c : Fin 4) (L : Fin 256) :
    im (ix2 c L) = vG vt (ix4 0 ⟨2 * k + p.val, by omega⟩ c L) := by
  rw [him, hV]
  unfold vG
  congr 1
  · apply Fin.ext; show 8 * p.val + 4 * (L.val % 2) + c.val = 8 * ((2 * k + p.val) % 2) + 4 * (L.val % 2) + c.val; omega
  · apply Fin.ext; show 128 * k + L.val / 2 = 128 * ((2 * k + p.val) / 2) + L.val / 2; omega

theorem emb_row (n : Nat) (hn : n < 16) (off : Fin 4 → Nat) (hoff : off = ![0, n, 0, 0])
    (h : ∀ a, off a + S1x1x4x256.size a ≤ S1x16x4x256.size a) (x : (Rect.unit (s := S1x16x4x256) off S1x1x4x256.size h).shape.Idx) :
    ∃ (c : Fin 4) (L : Fin 256), x = ix4 0 0 c L ∧ (Rect.unit (s := S1x16x4x256) off S1x1x4x256.size h).emb x = ix4 0 ⟨n, hn⟩ c L := by
  refine ⟨x 2, x 3, ?_, ?_⟩
  · funext a; apply Fin.ext; fin_cases a
    · exact Nat.lt_one_iff.mp (x 0).isLt
    · exact Nat.lt_one_iff.mp (x 1).isLt
    · rfl
    · rfl
  · subst hoff
    have h0 : (x 0).val = 0 := Nat.lt_one_iff.mp (x 0).isLt
    have h1 : (x 1).val = 0 := Nat.lt_one_iff.mp (x 1).isLt
    funext a; apply Fin.ext
    refine (Rect.idx_unit_val _ _ h _ a).trans ?_
    fin_cases a <;> simp [ix4, h0, h1]

theorem v_piece (vt : Fin 16 → Fin 1024 → EReal) (p : Fin 2) (k : Nat) (hk : k < 8) (V : FVec Ideal S16x128 .f32) (im : FVec Ideal S4x256 .f32)
    (him : ∀ c L, im (ix2 c L) = V (ix2 ⟨8 * p.val + 4 * (L.val % 2) + c.val, by omega⟩ ⟨L.val / 2, by omega⟩))
    (hV : ∀ (o : Fin 16) (l : Fin 128), V (ix2 o l) = vt o ⟨128 * k + l.val, by omega⟩)
    (off : Fin 4 → Nat) (hoff : off = ![0, 2 * k + p.val, 0, 0]) (h : ∀ a, off a + S1x1x4x256.size a ≤ S1x16x4x256.size a)
    (pay : FVec Ideal S1x1x4x256 .bf16) (hpay : pay = k0_pay72 im) :
    ∀ x : (Rect.unit (s := S1x16x4x256) off S1x1x4x256.size h).shape.Idx,
      pay x = vG vt ((Rect.unit (s := S1x16x4x256) off S1x1x4x256.size h).emb x) := by
  intro x
  obtain ⟨c, L, rfl, e⟩ := emb_row (2 * k + p.val) (by omega) off hoff h x
  rw [e, hpay, ← imgVal vt p k hk V im him hV]
  pointwise [k0_pay72]

theorem nxt_piece (dt : EReal) (lat : S1x16x4x256.Idx → EReal) (vt : Fin 16 → Fin 1024 → EReal) (p : Fin 2) (k : Nat) (hk : k < 8)
    (V : FVec Ideal S16x128 .f32) (im : FVec Ideal S4x256 .f32)
    (him : ∀ c L, im (ix2 c L) = V (ix2 ⟨8 * p.val + 4 * (L.val % 2) + c.val, by omega⟩ ⟨L.val / 2, by omega⟩))
    (hV : ∀ (o : Fin 16) (l : Fin 128), V (ix2 o l) = vt o ⟨128 * k + l.val, by omega⟩)
    (off : Fin 4 → Nat) (hoff : off = ![0, 2 * k + p.val, 0, 0]) (h h' : ∀ a, off a + S1x1x4x256.size a ≤ S1x16x4x256.size a)
    (pay : FVec Ideal S1x1x4x256 .f32)
    (hpay : pay = k0_pay71 (dt : Elt Ideal .f32) im
      (k0_pay70 (View.ld (S := S1x16x4x256) (Val := Elt Ideal) (e' := .f32) lat (Rect.unit off S1x1x4x256.size h')))) :
    ∀ x : (Rect.unit (s := S1x16x4x256) off S1x1x4x256.size h).shape.Idx,
      pay x = nxtG dt lat vt ((Rect.unit (s := S1x16x4x256) off S1x1x4x256.size h).emb x) := by
  intro x
  obtain ⟨c, L, rfl, e⟩ := emb_row (2 * k + p.val) (by omega) off hoff h x
  rw [e, nxtG, ← imgVal vt p k hk V im him hV, ← e, hpay]
  have e2 : View.ld (S := S1x16x4x256) (Val := Elt Ideal) (e' := .f32) lat (Rect.unit off S1x1x4x256.size h') (ix4 0 0 c L)
      = lat ((Rect.unit (s := S1x16x4x256) off S1x1x4x256.size h).emb (ix4 0 0 c L)) := rfl
  rw [← e2]
  pointwise [k0_pay71, k0_pay70]

end Cert.KernelIdeal.Rows
-- ==== Proof.Trip3.lean ====
/-
  The pieces one trip of the tail's loop stores, and all its trips, as parts of `nxtG` and `vG`.
-/
module

public import proofs.«01_k».proof.Proof.Gen.KernelIdeal.Loops
public import proofs.«01_k».proof.Proof.Trip
public import proofs.«01_k».proof.Proof.Tail

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

theorem off7_eq : ∀ k : Fin k0_t3_loop.trips, k0_off7 k = ![0, 0, 128 * k.val, 0] := by decide +kernel
theorem off9_eq : ∀ k : Fin k0_t3_loop.trips, k0_off9 k = ![0, 1, 128 * k.val, 0] := by decide +kernel
theorem off8_eq : ∀ k : Fin k0_t3_loop.trips, k0_off8 k = ![0, 0, k.val, 0] := by decide +kernel
theorem off10_eq : ∀ k : Fin k0_t3_loop.trips, k0_off10 k = ![0, 1, k.val, 0] := by decide +kernel
theorem off11_0 : ∀ k : Fin k0_t3_loop.trips, k0_off11 k 0#32 = ![0, 2 * k.val + (0 : Fin 2).val, 0, 0] := by decide +kernel
theorem off11_1 : ∀ k : Fin k0_t3_loop.trips, k0_off11 k 1#32 = ![0, 2 * k.val + (1 : Fin 2).val, 0, 0] := by decide +kernel

/-- A load of 128 rows of codes, at an index. -/
theorem ld_codes (C : S1x2x1024x1152.Idx → EReal) (p : Fin 2) (k : Nat) (hk : k < 8) (off : Fin 4 → Nat)
    (hoff : off = ![0, p.val, 128 * k, 0]) (h : ∀ a, off a + S1x1x128x1152.size a ≤ S1x2x1024x1152.size a) (l : Fin 128) (j : Fin 1152) :
    View.ld (S := S1x2x1024x1152) (Val := Elt Ideal) (e' := .fp8e4m3) C (Rect.unit off S1x1x128x1152.size h) (ix4 0 0 l j)
      = C (ix4 0 p ⟨128 * k + l.val, by omega⟩ j) := by
  subst hoff
  refine View.ld_unit_apply_of _ _ _ _ _ _ fun a => ?_
  fin_cases a <;> simp [ix4]

/-- A load of a row of scales, at a lane. -/
theorem ld_scales (S : S1x2x8x128.Idx → EReal) (p : Fin 2) (k : Nat) (hk : k < 8) (off : Fin 4 → Nat)
    (hoff : off = ![0, p.val, k, 0]) (h : ∀ a, off a + S1x1x1x128.size a ≤ S1x2x8x128.size a) (l : Fin 128) :
    View.ld (S := S1x2x8x128) (Val := Elt Ideal) (e' := .f32) S (Rect.unit off S1x1x1x128.size h) (ix4 0 0 0 l)
      = S (ix4 0 p ⟨k, hk⟩ l) := by
  subst hoff
  refine View.ld_unit_apply_of _ _ _ _ _ _ fun a => ?_
  fin_cases a <;> simp [ix4]

/-- A load of the whole block of weights. -/
theorem ld_weights (W : S16x1152.Idx → EReal) (h : ∀ a, (![0, 0] : Fin 2 → Nat) a + S16x1152.size a ≤ S16x1152.size a) (o : Fin 16) (j : Fin 1152) :
    View.ld (S := S16x1152) (Val := Elt Ideal) (e' := .fp8e4m3) W (Rect.unit ![0, 0] S16x1152.size h) (ix2 o j) = W (ix2 o j) := by
  refine View.ld_unit_apply_of _ _ _ _ _ _ fun a => ?_
  fin_cases a <;> simp [ix2]

theorem product_at (v1 : EReal) (v18 v20 : Vec Ideal S16x1 .f32) (W : S16x1152.Idx → EReal) (C : S1x2x1024x1152.Idx → EReal)
    (S : S1x2x8x128.Idx → EReal) (k : Nat) (hk : k < 8) (hW : ∀ a, (![0, 0] : Fin 2 → Nat) a + S16x1152.size a ≤ S16x1152.size a)
    (o7 o8 o9 o10 : Fin 4 → Nat) (e7 : o7 = ![0, (0 : Fin 2).val, 128 * k, 0]) (e8 : o8 = ![0, (0 : Fin 2).val, k, 0])
    (e9 : o9 = ![0, (1 : Fin 2).val, 128 * k, 0]) (e10 : o10 = ![0, (1 : Fin 2).val, k, 0])
    (h7 : ∀ a, o7 a + S1x1x128x1152.size a ≤ S1x2x1024x1152.size a) (h8 : ∀ a, o8 a + S1x1x1x128.size a ≤ S1x2x8x128.size a)
    (h9 : ∀ a, o9 a + S1x1x128x1152.size a ≤ S1x2x1024x1152.size a) (h10 : ∀ a, o10 a + S1x1x1x128.size a ≤ S1x2x8x128.size a)
    (o : Fin 16) (l : Fin 128) :
    k0_pay66 (F := Ideal) v1 (k0_pay88 v18) (k0_pay89 v20)
      (View.ld (S := S16x1152) (Val := Elt Ideal) (e' := .fp8e4m3) W (Rect.unit ![0, 0] S16x1152.size hW))
      (View.ld (S := S1x2x1024x1152) (Val := Elt Ideal) (e' := .fp8e4m3) C (Rect.unit o7 S1x1x128x1152.size h7))
      (View.ld (S := S1x2x8x128) (Val := Elt Ideal) (e' := .f32) S (Rect.unit o8 S1x1x1x128.size h8))
      (View.ld (S := S16x1152) (Val := Elt Ideal) (e' := .fp8e4m3) W (Rect.unit ![0, 0] S16x1152.size hW))
      (View.ld (S := S1x2x1024x1152) (Val := Elt Ideal) (e' := .fp8e4m3) C (Rect.unit o9 S1x1x128x1152.size h9))
      (View.ld (S := S1x2x8x128) (Val := Elt Ideal) (e' := .f32) S (Rect.unit o10 S1x1x1x128.size h10)) (ix2 o l)
      = vtG v1 W v18 v20 C S o ⟨128 * k + l.val, by omega⟩ := by
  refine (pay66_at _ _ _ _ _ _ _ _ _ _).trans ?_
  simp only [ld_codes C 0 k hk o7 e7, ld_codes C 1 k hk o9 e9, ld_scales S 0 k hk o8 e8, ld_scales S 1 k hk o10 e10, ld_weights W]
  have d : (⟨(128 * k + l.val) / 128, by omega⟩ : Fin 8) = ⟨k, hk⟩ := Fin.ext (by show (128 * k + l.val) / 128 = k; omega)
  have r : (⟨(128 * k + l.val) % 128, by omega⟩ : Fin 128) = l := Fin.ext (by show (128 * k + l.val) % 128 = l.val; omega)
  simp only [vtG, d, r]

theorem trip3_nxt (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v1 : Elt Ideal .f32) (v3 : Elt Ideal .f32) (v18 v20 : Vec Ideal S16x1 .f32) (X_arg6 : BufTy.Contents (Elt Ideal) arg6.view.ty) (X_arg9 : BufTy.Contents (Elt Ideal) arg9.view.ty) (X_arg12 : BufTy.Contents (Elt Ideal) arg12.view.ty) (X_arg13 : BufTy.Contents (Elt Ideal) arg13.view.ty) (k : Fin k0_t3_loop.trips) :
    View.PiecesOf (nxtG v3 (arg9.view.read (Elt Ideal) X_arg9) (vtG v1 (arg6.view.read (Elt Ideal) X_arg6) v18 v20 (arg12.view.read (Elt Ideal) X_arg12) (arg13.view.read (Elt Ideal) X_arg13))) (trip_k0_t3 𝒱 c bd i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k).1 := by
  have hk : k.val < 8 := k.isLt
  unfold trip_k0_t3
  dsimp only
  sl_unfold_run_names
  refine ⟨?_, ?_, trivial⟩ <;> dsimp only
  · exact nxt_piece _ _ _ 1 k.val hk _ _ (img1_at _) (product_at _ _ _ _ _ _ k.val hk _ _ _ _ _ (off7_eq k) (off8_eq k) (off9_eq k)
      (off10_eq k) (k0_off7_inb k) (k0_off8_inb k) (k0_off9_inb k) (k0_off10_inb k)) _ (off11_1 k) _ (k0_off11_inb k 1) _ rfl
  · exact nxt_piece _ _ _ 0 k.val hk _ _ (img0_at _) (product_at _ _ _ _ _ _ k.val hk _ _ _ _ _ (off7_eq k) (off8_eq k) (off9_eq k)
      (off10_eq k) (k0_off7_inb k) (k0_off8_inb k) (k0_off9_inb k) (k0_off10_inb k)) _ (off11_0 k) _ (k0_off11_inb k 0) _ rfl

theorem trip3_v (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v1 : Elt Ideal .f32) (v3 : Elt Ideal .f32) (v18 v20 : Vec Ideal S16x1 .f32) (X_arg6 : BufTy.Contents (Elt Ideal) arg6.view.ty) (X_arg9 : BufTy.Contents (Elt Ideal) arg9.view.ty) (X_arg12 : BufTy.Contents (Elt Ideal) arg12.view.ty) (X_arg13 : BufTy.Contents (Elt Ideal) arg13.view.ty) (k : Fin k0_t3_loop.trips) :
    View.PiecesOf (vG (vtG v1 (arg6.view.read (Elt Ideal) X_arg6) v18 v20 (arg12.view.read (Elt Ideal) X_arg12) (arg13.view.read (Elt Ideal) X_arg13))) (trip_k0_t3 𝒱 c bd i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k).2.1 := by
  have hk : k.val < 8 := k.isLt
  unfold trip_k0_t3
  dsimp only
  sl_unfold_run_names
  refine ⟨?_, ?_, trivial⟩ <;> dsimp only
  · exact v_piece _ 1 k.val hk _ _ (img1_at _) (product_at _ _ _ _ _ _ k.val hk _ _ _ _ _ (off7_eq k) (off8_eq k) (off9_eq k)
      (off10_eq k) (k0_off7_inb k) (k0_off8_inb k) (k0_off9_inb k) (k0_off10_inb k)) _ (off11_1 k) _ _ rfl
  · exact v_piece _ 0 k.val hk _ _ (img0_at _) (product_at _ _ _ _ _ _ k.val hk _ _ _ _ _ (off7_eq k) (off8_eq k) (off9_eq k)
      (off10_eq k) (k0_off7_inb k) (k0_off8_inb k) (k0_off9_inb k) (k0_off10_inb k)) _ (off11_0 k) _ _ rfl

theorem pb3_pieces (𝒱 : Variants) (c : Dev nD) (bd : Option 𝒱.V) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole) (v1 : Elt Ideal .f32) (v3 : Elt Ideal .f32) (v18 v20 : Vec Ideal S16x1 .f32) (X_arg6 : BufTy.Contents (Elt Ideal) arg6.view.ty) (X_arg9 : BufTy.Contents (Elt Ideal) arg9.view.ty) (X_arg12 : BufTy.Contents (Elt Ideal) arg12.view.ty) (X_arg13 : BufTy.Contents (Elt Ideal) arg13.view.ty) :
    ∀ k : Nat, k ≤ k0_t3_loop.trips →
      View.PiecesOf (nxtG v3 (arg9.view.read (Elt Ideal) X_arg9) (vtG v1 (arg6.view.read (Elt Ideal) X_arg6) v18 v20 (arg12.view.read (Elt Ideal) X_arg12) (arg13.view.read (Elt Ideal) X_arg13))) (pb_k0_t3 𝒱 c bd i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k).1
      ∧ View.PiecesOf (vG (vtG v1 (arg6.view.read (Elt Ideal) X_arg6) v18 v20 (arg12.view.read (Elt Ideal) X_arg12) (arg13.view.read (Elt Ideal) X_arg13))) (pb_k0_t3 𝒱 c bd i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k).2
  | 0, _ => ⟨trivial, trivial⟩
  | k + 1, hk => by
    have ih := pb3_pieces 𝒱 c bd i arg2 harg2 arg3 harg3 arg4 harg4 arg5 harg5 arg6 harg6 arg7 harg7 arg8 harg8 arg9 harg9 arg10 harg10 arg11 harg11 arg12 harg12 arg13 harg13 v1 v3 v18 v20 X_arg6 X_arg9 X_arg12 X_arg13 k (by omega)
    have e := pb_k0_t3_succ 𝒱 c bd i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 ⟨k, hk⟩
    rw [show (⟨k, hk⟩ : Fin k0_t3_loop.trips).val + 1 = k + 1 from rfl] at e
    rw [e]
    exact ⟨piecesOf_append (trip3_nxt 𝒱 c bd i arg2 harg2 arg3 harg3 arg4 harg4 arg5 harg5 arg6 harg6 arg7 harg7 arg8 harg8 arg9 harg9 arg10 harg10 arg11 harg11 arg12 harg12 arg13 harg13 v1 v3 v18 v20 X_arg6 X_arg9 X_arg12 X_arg13 ⟨k, hk⟩) ih.1, piecesOf_append (trip3_v 𝒱 c bd i arg2 harg2 arg3 harg3 arg4 harg4 arg5 harg5 arg6 harg6 arg7 harg7 arg8 harg8 arg9 harg9 arg10 harg10 arg11 harg11 arg12 harg12 arg13 harg13 v1 v3 v18 v20 X_arg6 X_arg9 X_arg12 X_arg13 ⟨k, hk⟩) ih.2⟩

end Cert.KernelIdeal.Rows
-- ==== Proof.Done.lean ====
/-
  What each output's buffer reads after all the trips of the loops that store into it: the trips' pieces cover the buffer and agree with
  one function of the point's blocks.
-/
module

public import proofs.«01_k».proof.Proof.Gen.KernelIdeal.Frame.Runs
public import proofs.«01_k».proof.Proof.Trip3

@[expose] public section

set_option maxRecDepth 16384

noncomputable section

open Idealize.ShloMosaic Idealize.ShloMosaic.TcCoe Idealize.SL.Sem

namespace Cert.KernelIdeal.Rows
open Cert.KernelIdeal Cert.KernelIdeal.Gen Cert.Spec

theorem read_codes (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (v4 v6 v11 v13 : Vec Ideal S1x1x1152 .f32) (X_arg3 : BufTy.Contents (Elt Ideal) arg3.view.ty)
    (sh gn : S1x2x1152.Idx → EReal)
    (hv4 : ∀ j, v4 (ix3 0 0 j) = sh (ix3 0 0 j)) (hv6 : ∀ j, v6 (ix3 0 0 j) = gn (ix3 0 0 j))
    (hv11 : ∀ j, v11 (ix3 0 0 j) = sh (ix3 0 1 j)) (hv13 : ∀ j, v13 (ix3 0 0 j) = gn (ix3 0 1 j))
    (f : BufTy.Contents (Elt Ideal) arg12.view.ty) :
    arg12.view.read (Elt Ideal) (arg12.view.writes (Elt Ideal) f ((pb_k0_t2 Variants.none c none i arg2 harg2 arg3 harg3 arg4 harg4 arg5 harg5 arg6 harg6 arg7 harg7 arg8 harg8 arg9 harg9 arg10 harg10 arg11 harg11 arg12 harg12 arg13 harg13 v11 v13 X_arg3 k0_t2_loop.trips).1 ++ (pb_k0_t1 Variants.none c none i arg2 harg2 arg3 harg3 arg4 harg4 arg5 harg5 arg6 harg6 arg7 harg7 arg8 harg8 arg9 harg9 arg10 harg10 arg11 harg11 arg12 harg12 arg13 harg13 v4 v6 X_arg3 k0_t1_loop.trips).1))
      = codesG (arg3.view.read (Elt Ideal) X_arg3) sh gn :=
  funext fun y => View.read_writes_apply_of_pieces _ _ _ _
    (View.PiecesOf.mem (piecesOf_append
      (pb2_pieces Variants.none c none i arg2 harg2 arg3 harg3 arg4 harg4 arg5 harg5 arg6 harg6 arg7 harg7 arg8 harg8 arg9 harg9 arg10 harg10 arg11 harg11 arg12 harg12 arg13 harg13 v11 v13 X_arg3 sh gn hv11 hv13 k0_t2_loop.trips le_rfl).1
      (pb1_pieces Variants.none c none i arg2 harg2 arg3 harg3 arg4 harg4 arg5 harg5 arg6 harg6 arg7 harg7 arg8 harg8 arg9 harg9 arg10 harg10 arg11 harg11 arg12 harg12 arg13 harg13 v4 v6 X_arg3 sh gn hv4 hv6 k0_t1_loop.trips le_rfl).1))
    y (View.cover_of_tiledL ((pb_k0_t2 Variants.none c none i arg2 harg2 arg3 harg3 arg4 harg4 arg5 harg5 arg6 harg6 arg7 harg7 arg8 harg8 arg9 harg9 arg10 harg10 arg11 harg11 arg12 harg12 arg13 harg13 v11 v13 X_arg3 k0_t2_loop.trips).1 ++ (pb_k0_t1 Variants.none c none i arg2 harg2 arg3 harg3 arg4 harg4 arg5 harg5 arg6 harg6 arg7 harg7 arg8 harg8 arg9 harg9 arg10 harg10 arg11 harg11 arg12 harg12 arg13 harg13 v4 v6 X_arg3 k0_t1_loop.trips).1) S1x1x32x1152.size (by sl_kernel_rfl) y)

theorem read_scales (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (v4 v6 v11 v13 : Vec Ideal S1x1x1152 .f32) (X_arg3 : BufTy.Contents (Elt Ideal) arg3.view.ty)
    (sh gn : S1x2x1152.Idx → EReal)
    (hv4 : ∀ j, v4 (ix3 0 0 j) = sh (ix3 0 0 j)) (hv6 : ∀ j, v6 (ix3 0 0 j) = gn (ix3 0 0 j))
    (hv11 : ∀ j, v11 (ix3 0 0 j) = sh (ix3 0 1 j)) (hv13 : ∀ j, v13 (ix3 0 0 j) = gn (ix3 0 1 j))
    (f : BufTy.Contents (Elt Ideal) arg13.view.ty) :
    arg13.view.read (Elt Ideal) (arg13.view.writes (Elt Ideal) f ((pb_k0_t2 Variants.none c none i arg2 harg2 arg3 harg3 arg4 harg4 arg5 harg5 arg6 harg6 arg7 harg7 arg8 harg8 arg9 harg9 arg10 harg10 arg11 harg11 arg12 harg12 arg13 harg13 v11 v13 X_arg3 k0_t2_loop.trips).2 ++ (pb_k0_t1 Variants.none c none i arg2 harg2 arg3 harg3 arg4 harg4 arg5 harg5 arg6 harg6 arg7 harg7 arg8 harg8 arg9 harg9 arg10 harg10 arg11 harg11 arg12 harg12 arg13 harg13 v4 v6 X_arg3 k0_t1_loop.trips).2))
      = scalesG (arg3.view.read (Elt Ideal) X_arg3) sh gn :=
  funext fun y => View.read_writes_apply_of_pieces _ _ _ _
    (View.PiecesOf.mem (piecesOf_append
      (pb2_pieces Variants.none c none i arg2 harg2 arg3 harg3 arg4 harg4 arg5 harg5 arg6 harg6 arg7 harg7 arg8 harg8 arg9 harg9 arg10 harg10 arg11 harg11 arg12 harg12 arg13 harg13 v11 v13 X_arg3 sh gn hv11 hv13 k0_t2_loop.trips le_rfl).2
      (pb1_pieces Variants.none c none i arg2 harg2 arg3 harg3 arg4 harg4 arg5 harg5 arg6 harg6 arg7 harg7 arg8 harg8 arg9 harg9 arg10 harg10 arg11 harg11 arg12 harg12 arg13 harg13 v4 v6 X_arg3 sh gn hv4 hv6 k0_t1_loop.trips le_rfl).2))
    y (View.cover_of_tiledL ((pb_k0_t2 Variants.none c none i arg2 harg2 arg3 harg3 arg4 harg4 arg5 harg5 arg6 harg6 arg7 harg7 arg8 harg8 arg9 harg9 arg10 harg10 arg11 harg11 arg12 harg12 arg13 harg13 v11 v13 X_arg3 k0_t2_loop.trips).2 ++ (pb_k0_t1 Variants.none c none i arg2 harg2 arg3 harg3 arg4 harg4 arg5 harg5 arg6 harg6 arg7 harg7 arg8 harg8 arg9 harg9 arg10 harg10 arg11 harg11 arg12 harg12 arg13 harg13 v4 v6 X_arg3 k0_t1_loop.trips).2) S1x1x1x128.size (by sl_kernel_rfl) y)

theorem read_nxt (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (v1 v3 : Elt Ideal .f32) (v18 v20 : Vec Ideal S16x1 .f32) (X_arg6 : BufTy.Contents (Elt Ideal) arg6.view.ty)
    (X_arg9 : BufTy.Contents (Elt Ideal) arg9.view.ty) (X_arg12 : BufTy.Contents (Elt Ideal) arg12.view.ty)
    (X_arg13 : BufTy.Contents (Elt Ideal) arg13.view.ty) (f : BufTy.Contents (Elt Ideal) arg10.view.ty) :
    arg10.view.read (Elt Ideal) (arg10.view.writes (Elt Ideal) f (pb_k0_t3 Variants.none c none i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k0_t3_loop.trips).1)
      = nxtG v3 (arg9.view.read (Elt Ideal) X_arg9) (vtG v1 (arg6.view.read (Elt Ideal) X_arg6) v18 v20 (arg12.view.read (Elt Ideal) X_arg12) (arg13.view.read (Elt Ideal) X_arg13)) :=
  funext fun y => View.read_writes_apply_of_pieces _ _ _ _
    (View.PiecesOf.mem (pb3_pieces Variants.none c none i arg2 harg2 arg3 harg3 arg4 harg4 arg5 harg5 arg6 harg6 arg7 harg7 arg8 harg8 arg9 harg9 arg10 harg10 arg11 harg11 arg12 harg12 arg13 harg13 v1 v3 v18 v20 X_arg6 X_arg9 X_arg12 X_arg13 k0_t3_loop.trips le_rfl).1)
    y (View.cover_of_tiledL (pb_k0_t3 Variants.none c none i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k0_t3_loop.trips).1 S1x1x4x256.size (by sl_kernel_rfl) y)

theorem read_v (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (v1 v3 : Elt Ideal .f32) (v18 v20 : Vec Ideal S16x1 .f32) (X_arg6 : BufTy.Contents (Elt Ideal) arg6.view.ty)
    (X_arg9 : BufTy.Contents (Elt Ideal) arg9.view.ty) (X_arg12 : BufTy.Contents (Elt Ideal) arg12.view.ty)
    (X_arg13 : BufTy.Contents (Elt Ideal) arg13.view.ty) (f : BufTy.Contents (Elt Ideal) arg11.view.ty) :
    arg11.view.read (Elt Ideal) (arg11.view.writes (Elt Ideal) f (pb_k0_t3 Variants.none c none i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k0_t3_loop.trips).2)
      = vG (vtG v1 (arg6.view.read (Elt Ideal) X_arg6) v18 v20 (arg12.view.read (Elt Ideal) X_arg12) (arg13.view.read (Elt Ideal) X_arg13)) :=
  funext fun y => View.read_writes_apply_of_pieces _ _ _ _
    (View.PiecesOf.mem (pb3_pieces Variants.none c none i arg2 harg2 arg3 harg3 arg4 harg4 arg5 harg5 arg6 harg6 arg7 harg7 arg8 harg8 arg9 harg9 arg10 harg10 arg11 harg11 arg12 harg12 arg13 harg13 v1 v3 v18 v20 X_arg6 X_arg9 X_arg12 X_arg13 k0_t3_loop.trips le_rfl).2)
    y (View.cover_of_tiledL (pb_k0_t3 Variants.none c none i arg2 harg2 arg3 harg3 arg4 harg4 arg5 harg5 arg6 harg6 arg7 harg7 arg8 harg8 arg9 harg9 arg10 harg10 arg11 harg11 arg12 harg12 arg13 harg13 v1 v3 (k0_pay88 v18) (k0_pay89 v20) laneV bitV zeroV X_arg6 X_arg9 X_arg12 X_arg13 k0_t3_loop.trips).2 S1x1x4x256.size (by sl_kernel_rfl) y)

end Cert.KernelIdeal.Rows
-- ==== Proof.Run.lean ====
/-
  The whole body at any point, over the extended reals: from the inputs' blocks it leaves each output's buffer at the function of
  the blocks that Piece.lean and Tail.lean name.
-/
module

public import proofs.«01_k».proof.Proof.Done

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelIdeal.Rows
open Cert.KernelIdeal Cert.KernelIdeal.Gen Cert.Spec

local notation "𝕄" => MT nD τ sig Unit (Elt Ideal) ℕ (UR sig nD τ) ℕ

/-- The mixtures of a point's block: the codes and scales are those the body itself stores. -/
def vtPt (i : grid0.Coords) (x0 : S2x3.Idx → EReal) (x1 : S1x2x1024x1152.Idx → EReal) (x2 x3 : S1x2x1152.Idx → EReal)
    (x4 : S16x1152.Idx → EReal) (x5 x6 : S16x1.Idx → EReal) : Fin 16 → Fin 1024 → EReal :=
  vtG (x0 (ix2 0 (i 0 : Fin 3))) x4 x5 x6 (codesG x1 x2 x3) (scalesG x1 x2 x3)

/-- The block of guided mixtures the body stores. -/
def vPt (i : grid0.Coords) (x0 : S2x3.Idx → EReal) (x1 : S1x2x1024x1152.Idx → EReal) (x2 x3 : S1x2x1152.Idx → EReal)
    (x4 : S16x1152.Idx → EReal) (x5 x6 : S16x1.Idx → EReal) : S1x16x4x256.Idx → EReal :=
  vG (vtPt i x0 x1 x2 x3 x4 x5 x6)

/-- The block of next latents the body stores. -/
def nxtPt (i : grid0.Coords) (x0 : S2x3.Idx → EReal) (x1 : S1x2x1024x1152.Idx → EReal) (x2 x3 : S1x2x1152.Idx → EReal)
    (x4 : S16x1152.Idx → EReal) (x5 x6 : S16x1.Idx → EReal) (x7 : S1x16x4x256.Idx → EReal) : S1x16x4x256.Idx → EReal :=
  nxtG (x0 (ix2 1 (i 0 : Fin 3))) x7 (vtPt i x0 x1 x2 x3 x4 x5 x6)

theorem nxtPt_eq (i : grid0.Coords) (x0 : S2x3.Idx → EReal) (x1 : S1x2x1024x1152.Idx → EReal) (x2 x3 : S1x2x1152.Idx → EReal)
    (x4 : S16x1152.Idx → EReal) (x5 x6 : S16x1.Idx → EReal) (x7 : S1x16x4x256.Idx → EReal) (g d : EReal)
    (w5 w6 : S16x1.Idx → EReal) (hg : g = x0 (ix2 0 (i 0 : Fin 3))) (hd : d = x0 (ix2 1 (i 0 : Fin 3))) (h5 : w5 = x5) (h6 : w6 = x6) :
    nxtG d x7 (vtG g x4 w5 w6 (codesG x1 x2 x3) (scalesG x1 x2 x3)) = nxtPt i x0 x1 x2 x3 x4 x5 x6 x7 := by
  subst hg hd h5 h6; rfl

theorem vPt_eq (i : grid0.Coords) (x0 : S2x3.Idx → EReal) (x1 : S1x2x1024x1152.Idx → EReal) (x2 x3 : S1x2x1152.Idx → EReal)
    (x4 : S16x1152.Idx → EReal) (x5 x6 : S16x1.Idx → EReal) (g : EReal) (w5 w6 : S16x1.Idx → EReal) (hg : g = x0 (ix2 0 (i 0 : Fin 3)))
    (h5 : w5 = x5) (h6 : w6 = x6) :
    vG (vtG g x4 w5 w6 (codesG x1 x2 x3) (scalesG x1 x2 x3)) = vPt i x0 x1 x2 x3 x4 x5 x6 := by
  subst hg h5 h6; rfl

/-- A whole column, loaded. -/
theorem ld_column (x : S16x1.Idx → EReal) (h : ∀ a, ![0, 0] a + S16x1.size a ≤ S16x1.size a) :
    View.ld (S := S16x1) (Val := Elt Ideal) (e' := .f32) x (Rect.unit (s := S16x1) ![0, 0] S16x1.size h) = x :=
  View.ld_unit_zero (Val := Elt Ideal) (e := .f32) (S := S16x1) (off := ![0, 0]) (funext fun a => by fin_cases a <;> rfl) h x

/-- A row of a two-row block, loaded. -/
theorem ld_branch (x : S1x2x1152.Idx → EReal) (p : Fin 2) (off : Fin 3 → Nat) (hoff : off = ![0, p.val, 0])
    (h : ∀ a, off a + S1x1x1152.size a ≤ S1x2x1152.size a) (j : Fin 1152) :
    View.ld (S := S1x2x1152) (Val := Elt Ideal) (e' := .f32) x (Rect.unit off S1x1x1152.size h) (ix3 0 0 j) = x (ix3 0 p j) := by
  subst hoff
  refine View.ld_unit_apply_of _ _ _ _ _ _ fun a => ?_
  fin_cases a <;> simp [ix3]

/-- A word of the table of scalars, loaded. -/
theorem ld_word (x : S2x3.Idx → EReal) (r : Fin 2) (b : Fin 3) (off : Fin 2 → Nat) (hoff : off = ![r.val, b.val])
    (h : ∀ a, off a + S1x1.size a ≤ S2x3.size a) (j : S1x1.Idx) :
    View.ld (S := S2x3) (Val := Elt Ideal) (e' := .f32) x (Rect.unit off S1x1.size h) j = x (ix2 r b) := by
  subst hoff
  have h0 : (j 0).val = 0 := Nat.lt_one_iff.mp (j 0).isLt
  have h1 : (j 1).val = 0 := Nat.lt_one_iff.mp (j 1).isLt
  refine View.ld_unit_apply_of _ _ _ _ _ _ fun a => ?_
  fin_cases a <;> simp [ix2, h0, h1]

set_option maxHeartbeats 1000000 in
/-- The body's triple. -/
theorem body_run (c : Dev nD) (i : grid0.Coords) (arg2 : Memref sig .tc .smem S2x3 .f32) (harg2 : arg2.IsWhole) (arg3 : Memref sig .tc .vmem S1x2x1024x1152 .bf16) (harg3 : arg3.IsWhole) (arg4 : Memref sig .tc .vmem S1x2x1152 .f32) (harg4 : arg4.IsWhole) (arg5 : Memref sig .tc .vmem S1x2x1152 .f32) (harg5 : arg5.IsWhole) (arg6 : Memref sig .tc .vmem S16x1152 .fp8e4m3) (harg6 : arg6.IsWhole) (arg7 : Memref sig .tc .vmem S16x1 .f32) (harg7 : arg7.IsWhole) (arg8 : Memref sig .tc .vmem S16x1 .f32) (harg8 : arg8.IsWhole) (arg9 : Memref sig .tc .vmem S1x16x4x256 .f32) (harg9 : arg9.IsWhole) (arg10 : Memref sig .tc .vmem S1x16x4x256 .f32) (harg10 : arg10.IsWhole) (arg11 : Memref sig .tc .vmem S1x16x4x256 .bf16) (harg11 : arg11.IsWhole) (arg12 : Memref sig .tc .vmem S1x2x1024x1152 .fp8e4m3) (harg12 : arg12.IsWhole) (arg13 : Memref sig .tc .vmem S1x2x8x128 .f32) (harg13 : arg13.IsWhole)
    (x0 : Vec Ideal S2x3 .f32) (x1 : Vec Ideal S1x2x1024x1152 .bf16) (x2 : Vec Ideal S1x2x1152 .f32) (x3 : Vec Ideal S1x2x1152 .f32) (x4 : Vec Ideal S16x1152 .fp8e4m3) (x5 : Vec Ideal S16x1 .f32) (x6 : Vec Ideal S16x1 .f32) (x7 : Vec Ideal S1x16x4x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (nxtPt i x0 x1 x2 x3 x4 x5 x6 x7) ∗ owns (c : Thread nD τ) arg11 fullShare (vPt i x0 x1 x2 x3 x4 x5 x6) ∗ owns (c : Thread nD τ) arg12 fullShare (codesG x1 x2 x3) ∗ owns (c : Thread nD τ) arg13 fullShare (scalesG x1 x2 x3)) -∗ K ⟨⟩))
      ⊢ wp frame (wpE (defs₀ (F := Ideal)) Variants.none c none) E (cc0_dit_final i arg2 harg2 arg3 harg3 arg4 harg4 arg5 harg5 arg6 harg6 arg7 harg7 arg8 harg8 arg9 harg9 arg10 harg10 arg11 harg11 arg12 harg12 arg13 harg13) K := by
  have rd2 := harg2.read_unread (Val := Elt Ideal) x0
  have rd3 := harg3.read_unread (Val := Elt Ideal) x1
  have rd4 := harg4.read_unread (Val := Elt Ideal) x2
  have rd5 := harg5.read_unread (Val := Elt Ideal) x3
  have rd6 := harg6.read_unread (Val := Elt Ideal) x4
  have rd7 := harg7.read_unread (Val := Elt Ideal) x5
  have rd8 := harg8.read_unread (Val := Elt Ideal) x6
  have rd9 := harg9.read_unread (Val := Elt Ideal) x7
  have a0 : ∀ p off (e : off = ![0, p.val, 0]) h j, View.readAt (Elt Ideal) arg4.view (Rect.unit (s := S1x2x1152) off S1x1x1152.size h).toLoadRect (harg4.unread x2) (ix3 0 0 j) = x2 (ix3 0 p j) := by
    intro p off e h j
    exact (congrArg (fun z => View.ld (S := S1x2x1152) (Val := Elt Ideal) (e' := .f32) z (Rect.unit (s := S1x2x1152) off S1x1x1152.size h) (ix3 0 0 j)) rd4).trans (ld_branch x2 p off e h j)
  have a1 : ∀ p off (e : off = ![0, p.val, 0]) h j, View.readAt (Elt Ideal) arg5.view (Rect.unit (s := S1x2x1152) off S1x1x1152.size h).toLoadRect (harg5.unread x3) (ix3 0 0 j) = x3 (ix3 0 p j) := by
    intro p off e h j
    exact (congrArg (fun z => View.ld (S := S1x2x1152) (Val := Elt Ideal) (e' := .f32) z (Rect.unit (s := S1x2x1152) off S1x1x1152.size h) (ix3 0 0 j)) rd5).trans (ld_branch x3 p off e h j)
  have a4 : ∀ r off (e : off = ![r.val, (i 0 : Fin 3).val]) h j, View.readAt (Elt Ideal) arg2.view (Rect.unit (s := S2x3) off S1x1.size h).toLoadRect (harg2.unread x0) j = x0 (ix2 r (i 0 : Fin 3)) := by
    intro r off e h j
    exact (congrArg (fun z => View.ld (S := S2x3) (Val := Elt Ideal) (e' := .f32) z (Rect.unit (s := S2x3) off S1x1.size h) j) rd2).trans (ld_word x0 r (i 0 : Fin 3) off e h j)
  have a7 : View.readAt (Elt Ideal) arg7.view (Rect.unit (s := S16x1) ![0, 0] S16x1.size inb_S16x1_S16x1_0_0).toLoadRect (harg7.unread x5) = x5 :=
    (congrArg (fun z => View.ld (S := S16x1) (Val := Elt Ideal) (e' := .f32) z (Rect.unit (s := S16x1) ![0, 0] S16x1.size inb_S16x1_S16x1_0_0)) rd7).trans (ld_column x5 _)
  have a8 : View.readAt (Elt Ideal) arg8.view (Rect.unit (s := S16x1) ![0, 0] S16x1.size inb_S16x1_S16x1_0_0).toLoadRect (harg8.unread x6) = x6 :=
    (congrArg (fun z => View.ld (S := S16x1) (Val := Elt Ideal) (e' := .f32) z (Rect.unit (s := S16x1) ![0, 0] S16x1.size inb_S16x1_S16x1_0_0)) rd8).trans (ld_column x6 _)
  simp only [cc0_dit_final_eq_skeleton]; unfold cc0_dit_final_skel
  simp only [k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have c12 := fun f => (read_codes c i arg2 harg2 arg3 harg3 arg4 harg4 arg5 harg5 arg6 harg6 arg7 harg7 arg8 harg8 arg9 harg9 arg10 harg10 arg11 harg11 arg12 harg12 arg13 harg13 _ _ _ _ (harg3.unread x1) x2 x3 (a0 0 ![0, 0, 0] rfl inb_S1x2x1152_S1x1x1152_0_0_0)
    (a1 0 ![0, 0, 0] rfl inb_S1x2x1152_S1x1x1152_0_0_0) (a0 1 ![0, 1, 0] rfl inb_S1x2x1152_S1x1x1152_0_1_0)
    (a1 1 ![0, 1, 0] rfl inb_S1x2x1152_S1x1x1152_0_1_0) f).trans (congrArg (fun z => codesG z x2 x3) rd3)
  have c13 := fun f => (read_scales c i arg2 harg2 arg3 harg3 arg4 harg4 arg5 harg5 arg6 harg6 arg7 harg7 arg8 harg8 arg9 harg9 arg10 harg10 arg11 harg11 arg12 harg12 arg13 harg13 _ _ _ _ (harg3.unread x1) x2 x3 (a0 0 ![0, 0, 0] rfl inb_S1x2x1152_S1x1x1152_0_0_0)
    (a1 0 ![0, 0, 0] rfl inb_S1x2x1152_S1x1x1152_0_0_0) (a0 1 ![0, 1, 0] rfl inb_S1x2x1152_S1x1x1152_0_1_0)
    (a1 1 ![0, 1, 0] rfl inb_S1x2x1152_S1x1x1152_0_1_0) f).trans (congrArg (fun z => scalesG z x2 x3) rd3)
  isplitl [H8]
  · iexists _; isplitr
    swap; · iexact H8
    ipureintro
    refine (read_nxt c i arg2 harg2 arg3 harg3 arg4 harg4 arg5 harg5 arg6 harg6 arg7 harg7 arg8 harg8 arg9 harg9 arg10 harg10 arg11 harg11 arg12 harg12 arg13 harg13 _ _ _ _ _ _ _ _ _).trans ?_
    rw [rd6, rd9, c12 f10, c13 f11]
    refine nxtPt_eq i x0 x1 x2 x3 x4 x5 x6 x7 _ _ _ _ ?_ ?_ rfl rfl
    · exact a4 0 _ (k0_off1_eq i) (k0_off1_inb i) _
    · exact a4 1 _ (k0_off2_eq i) (k0_off2_inb i) _
  isplitl [H9]
  · iexists _; isplitr
    swap; · iexact H9
    ipureintro
    refine (read_v c i arg2 harg2 arg3 harg3 arg4 harg4 arg5 harg5 arg6 harg6 arg7 harg7 arg8 harg8 arg9 harg9 arg10 harg10 arg11 harg11 arg12 harg12 arg13 harg13 _ _ _ _ _ _ _ _ _).trans ?_
    rw [rd6, c12 f10, c13 f11]
    refine vPt_eq i x0 x1 x2 x3 x4 x5 x6 _ _ _ ?_ rfl rfl
    exact a4 0 _ (k0_off1_eq i) (k0_off1_inb i) _
  isplitl [H10]
  · iexists _; isplitr
    swap; · iexact H10
    ipureintro
    exact c12 f10
  iexists _; isplitr
  swap; · iexact H11
  ipureintro
  exact c13 f11

end Cert.KernelIdeal.Rows
-- ==== Proof.KFrame.lean ====
/-
  The pipeline over the extended reals: its proof data, with each output's block at a point given by the values of Run.lean, the
  body's obligation, the run of the whole program and its frame.
-/
module

public import proofs.«01_k».proof.Proof.Run
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Rows
open Cert.KernelIdeal Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The proof data of the one pipeline on core `c`: the arrays as the region finds them (`V`); after the body at
    point `t` each input's buffer at its block and the outputs' at the values of Run.lean; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => nxtPt (grid0.coords t) (iblk m c 0 t) (iblk m c 1 t) (iblk m c 2 t) (iblk m c 3 t) (iblk m c 4 t) (iblk m c 5 t) (iblk m c 6 t) (iblk m c 7 t)
    | ⟨9, _⟩ => vPt (grid0.coords t) (iblk m c 0 t) (iblk m c 1 t) (iblk m c 2 t) (iblk m c 3 t) (iblk m c 4 t) (iblk m c 5 t) (iblk m c 6 t)
    | ⟨10, _⟩ => codesG (iblk m c 1 t) (iblk m c 2 t) (iblk m c 3 t)
    | ⟨11, _⟩ => scalesG (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = nxtPt (grid0.coords t) (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = vPt (grid0.coords t) (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = codesG (iblk m c 1 t) (iblk m c 2 t) (iblk m c 3 t) := by dsimp only [dats]
theorem after0_11 (c : Dev nD) (t : Fin cfg0.N) : (dats m 0 c).after 11 t = scalesG (iblk m c 1 t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Rows

end
-- ==== Proof.Layer.lean ====
/-
  The four results of the layer as functions of the ten arguments, over the extended reals, with the row functions of Spec.lean.
-/
module

public import proofs.«01_k».proof.Proof.Spec

@[expose] public section

noncomputable section

open Idealize.ShloMosaic

namespace Cert.Spec

abbrev A3 : Shape := ⟨1, ![3]⟩
abbrev A16 : Shape := ⟨1, ![16]⟩
abbrev A1152x16 : Shape := ⟨2, ![1152, 16]⟩
abbrev A3x2x1152 : Shape := ⟨3, ![3, 2, 1152]⟩
abbrev A3x2x12288x1152 : Shape := ⟨4, ![3, 2, 12288, 1152]⟩
abbrev A3x192x256x4 : Shape := ⟨4, ![3, 192, 256, 4]⟩

/-- The modulated layer norm of token `n` of branch `r` of sample `b`. -/
def layH (x : A3x2x12288x1152.Idx → EReal) (sh gn : A3x2x1152.Idx → EReal) (b : Fin 3) (r : Fin 2) (n : Fin 12288) : Fin 1152 → EReal :=
  rowH (fun j => x (ix4 b r n j)) (fun j => gn (ix3 b r j)) (fun j => sh (ix3 b r j))

/-- The codes of the token. -/
def layCodes (x : A3x2x12288x1152.Idx → EReal) (sh gn : A3x2x1152.Idx → EReal) (b : Fin 3) (r : Fin 2) (n : Fin 12288) (l : Fin 1152) : EReal :=
  codeOf (layH x sh gn b r n l) (invOf (rowQ (layH x sh gn b r n)))

/-- The scale of the token. -/
def layScale (x : A3x2x12288x1152.Idx → EReal) (sh gn : A3x2x1152.Idx → EReal) (b : Fin 3) (r : Fin 2) (n : Fin 12288) : EReal :=
  scaleOf (rowQ (layH x sh gn b r n))

/-- The guided mixture of the token's two branches, output `o`. -/
def layMix (x : A3x2x12288x1152.Idx → EReal) (sh gn : A3x2x1152.Idx → EReal) (w : A1152x16.Idx → EReal) (ws bias : A16.Idx → EReal)
    (g : A3.Idx → EReal) (b : Fin 3) (n : Fin 12288) (o : Fin 16) : EReal :=
  mixOf (g (ix1 b))
    (yOf (fun k => w (ix2 k o)) (layCodes x sh gn b 0 n) (layScale x sh gn b 0 n) (ws (ix1 o)) (bias (ix1 o)))
    (yOf (fun k => w (ix2 k o)) (layCodes x sh gn b 1 n) (layScale x sh gn b 1 n) (ws (ix1 o)) (bias (ix1 o)))

/-- The mixtures as an image: row `Y`, column `X`, channel `c`. -/
def layImg (x : A3x2x12288x1152.Idx → EReal) (sh gn : A3x2x1152.Idx → EReal) (w : A1152x16.Idx → EReal) (ws bias : A16.Idx → EReal)
    (g : A3.Idx → EReal) (b : Fin 3) (Y : Fin 192) (X : Fin 256) (c : Fin 4) : EReal :=
  layMix x sh gn w ws bias g b ⟨128 * (Y.val / 2) + X.val / 2, by omega⟩ ⟨8 * (Y.val % 2) + 4 * (X.val % 2) + c.val, by omega⟩

/-- The next latent. -/
def layNext (x : A3x2x12288x1152.Idx → EReal) (sh gn : A3x2x1152.Idx → EReal) (w : A1152x16.Idx → EReal) (ws bias : A16.Idx → EReal)
    (g t tn : A3.Idx → EReal) (lat : A3x192x256x4.Idx → EReal) (b : Fin 3) (Y : Fin 192) (X : Fin 256) (c : Fin 4) : EReal :=
  lat (ix4 b Y X c) + (tn (ix1 b) - t (ix1 b)) * layImg x sh gn w ws bias g b Y X c

end Cert.Spec
-- ==== Proof.KIn.lean ====
/-
  What the kernel's region leaves in its four output arrays, over the arguments.
-/
module

public import proofs.«01_k».proof.Proof.KFrame
public import proofs.«01_k».proof.Proof.Layer
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.ShloMosaic.Tactic
open Idealize.SL Idealize.SL.RA Idealize.SL.BI
open Idealize.ShloMosaic.Pipeline (Dat Cfg Window)

namespace Cert.KernelIdeal.Rows
open Cert.KernelIdeal Cert.KernelIdeal.Gen Cert.Spec

variable (m : (ℓ : Loc nD τ sig) → Buf (Elt Ideal) ℓ)

/-! ## The arguments -/

abbrev aX (c : Dev nD) : A3x2x12288x1152.Idx → EReal := m ((c.tc : Thread nD τ).loc main_arg0)
abbrev aSh (c : Dev nD) : A3x2x1152.Idx → EReal := m ((c.tc : Thread nD τ).loc main_arg1)
abbrev aGn (c : Dev nD) : A3x2x1152.Idx → EReal := m ((c.tc : Thread nD τ).loc main_arg2)
abbrev aW (c : Dev nD) : A1152x16.Idx → EReal := m ((c.tc : Thread nD τ).loc main_arg3)
abbrev aWs (c : Dev nD) : A16.Idx → EReal := m ((c.tc : Thread nD τ).loc main_arg4)
abbrev aB (c : Dev nD) : A16.Idx → EReal := m ((c.tc : Thread nD τ).loc main_arg5)
abbrev aG (c : Dev nD) : A3.Idx → EReal := m ((c.tc : Thread nD τ).loc main_arg6)
abbrev aT (c : Dev nD) : A3.Idx → EReal := m ((c.tc : Thread nD τ).loc main_arg7)
abbrev aTn (c : Dev nD) : A3.Idx → EReal := m ((c.tc : Thread nD τ).loc main_arg8)
abbrev aLat (c : Dev nD) : A3x192x256x4.Idx → EReal := m ((c.tc : Thread nD τ).loc main_arg9)

/-! ## The host operations before the region -/

theorem v0_at (c : Dev nD) (b : Fin 3) (Y : Fin 192) (ch : Fin 4) (X : Fin 256) :
    V m c main_v0 (ix4 b Y ch X) = aLat m c (ix4 b Y X ch) := by
  show StableHlo.after (List.flatten [hostOps0]) (fun b => m (c, b)) (Proc.devRef .tc main_v0) (ix4 b Y ch X) = _
  simp only [hostOps0, List.flatten_cons, List.flatten_nil, List.append_nil, List.cons_append, List.nil_append]
  after_reads_at

theorem v4_g (c : Dev nD) (b : Fin 3) : V m c main_v4 (ix2 0 b) = aG m c (ix1 b) := by
  show StableHlo.after (List.flatten [hostOps0]) (fun b => m (c, b)) (Proc.devRef .tc main_v4) (ix2 0 b) = _
  simp only [hostOps0, List.flatten_cons, List.flatten_nil, List.append_nil, List.cons_append, List.nil_append]
  after_reads_at

theorem v4_dt (c : Dev nD) (b : Fin 3) : V m c main_v4 (ix2 1 b) = aTn m c (ix1 b) - aT m c (ix1 b) := by
  show StableHlo.after (List.flatten [hostOps0]) (fun b => m (c, b)) (Proc.devRef .tc main_v4) (ix2 1 b) = _
  simp only [hostOps0, List.flatten_cons, List.flatten_nil, List.append_nil, List.cons_append, List.nil_append]
  after_reads_at

theorem v5_at (c : Dev nD) (o : Fin 16) (k : Fin 1152) : V m c main_v5 (ix2 o k) = aW m c (ix2 k o) := by
  show StableHlo.after (List.flatten [hostOps0]) (fun b => m (c, b)) (Proc.devRef .tc main_v5) (ix2 o k) = _
  simp only [hostOps0, List.flatten_cons, List.flatten_nil, List.append_nil, List.cons_append, List.nil_append]
  after_reads_at

theorem v6_at (c : Dev nD) (o : Fin 16) : V m c main_v6 (ix2 o 0) = aWs m c (ix1 o) := by
  show StableHlo.after (List.flatten [hostOps0]) (fun b => m (c, b)) (Proc.devRef .tc main_v6) (ix2 o 0) = _
  simp only [hostOps0, List.flatten_cons, List.flatten_nil, List.append_nil, List.cons_append, List.nil_append]
  after_reads_at

theorem v7_at (c : Dev nD) (o : Fin 16) : V m c main_v7 (ix2 o 0) = aB m c (ix1 o) := by
  show StableHlo.after (List.flatten [hostOps0]) (fun b => m (c, b)) (Proc.devRef .tc main_v7) (ix2 o 0) = _
  simp only [hostOps0, List.flatten_cons, List.flatten_nil, List.append_nil, List.cons_append, List.nil_append]
  after_reads_at

/-! ## The points and their blocks -/

theorem idx_ : ∀ t : Fin cfg0.N, win0_0.index t = ![0, 0] ∧ win0_1.index t = ![t.val / 12, 0, t.val % 12, 0] ∧ win0_2.index t = ![t.val / 12, 0, 0]
    ∧ win0_3.index t = ![t.val / 12, 0, 0] ∧ win0_4.index t = ![0, 0] ∧ win0_5.index t = ![0, 0] ∧ win0_6.index t = ![0, 0]
    ∧ win0_7.index t = ![t.val / 12, t.val % 12, 0, 0] ∧ win0_8.index t = ![t.val / 12, t.val % 12, 0, 0] ∧ win0_9.index t = ![t.val / 12, t.val % 12, 0, 0]
    ∧ win0_10.index t = ![t.val / 12, 0, t.val % 12, 0] ∧ win0_11.index t = ![t.val / 12, 0, t.val % 12, 0] :=
  (by decide +kernel : ∀ t : Fin grid0.N, _)

theorem coord0 : ∀ t : Fin cfg0.N, ((grid0.coords t 0 : Fin 3) : ℕ) = t.val / 12 := (by decide +kernel : ∀ t : Fin grid0.N, _)

/-- The point's sample. -/
def smp (t : Fin cfg0.N) : Fin 3 := ⟨t.val / 12, by have := t.isLt; have : cfg0.N = 36 := N_0; omega⟩
/-- Token `k` of the point's block. -/
def tok (t : Fin cfg0.N) (k : Fin 1024) : Fin 12288 := ⟨1024 * (t.val % 12) + k.val, by omega⟩

theorem blk1 (c : Dev nD) (t : Fin cfg0.N) (r : Fin 2) (k : Fin 1024) (l : Fin 1152) :
    iblk m c 1 t (ix4 0 r k l) = aX m c (ix4 (smp t) r (tok t k) l) := by
  blk_ext [iblk, V, idx_ t, smp, tok]

theorem blk2 (c : Dev nD) (t : Fin cfg0.N) (r : Fin 2) (l : Fin 1152) :
    iblk m c 2 t (ix3 0 r l) = aSh m c (ix3 (smp t) r l) := by
  blk_ext [iblk, V, idx_ t, smp]

theorem blk3 (c : Dev nD) (t : Fin cfg0.N) (r : Fin 2) (l : Fin 1152) :
    iblk m c 3 t (ix3 0 r l) = aGn m c (ix3 (smp t) r l) := by
  blk_ext [iblk, V, idx_ t, smp]

theorem blk0 (c : Dev nD) (t : Fin cfg0.N) (a : Fin 2) (b : Fin 3) : iblk m c 0 t (ix2 a b) = V m c main_v4 (ix2 a b) := by
  blk_ext [iblk, idx_ t]

theorem blk4 (c : Dev nD) (t : Fin cfg0.N) (o : Fin 16) (k : Fin 1152) : iblk m c 4 t (ix2 o k) = V m c main_v5 (ix2 o k) := by
  blk_ext [iblk, idx_ t]

theorem blk5 (c : Dev nD) (t : Fin cfg0.N) (o : Fin 16) : iblk m c 5 t (ix2 o 0) = V m c main_v6 (ix2 o 0) := by
  blk_ext [iblk, idx_ t]

theorem blk6 (c : Dev nD) (t : Fin cfg0.N) (o : Fin 16) : iblk m c 6 t (ix2 o 0) = V m c main_v7 (ix2 o 0) := by
  blk_ext [iblk, idx_ t]

theorem blk7 (c : Dev nD) (t : Fin cfg0.N) (y : S1x16x4x256.Idx) :
    iblk m c 7 t y = V m c main_v0 (ix4 (smp t) (⟨16 * (t.val % 12) + (y 1 : Fin 16).val, by
      have h : (y 1).val < 16 := (y 1).isLt
      omega⟩ : Fin 192) (y 2) (y 3)) := by
  blk_ext [iblk, idx_ t, smp]

end Cert.KernelIdeal.Rows

end
-- ==== Proof.KArr.lean ====
/-
  What the kernel's region leaves in its four output arrays, over the arguments: the functions of Layer.lean.
-/
module

public import proofs.«01_k».proof.Proof.KIn

@[expose] public section

set_option maxRecDepth 16384

noncomputable section

open Idealize.ShloMosaic Idealize.ShloMosaic.TcCoe Idealize.ShloMosaic.Tactic
open Idealize.SL Idealize.SL.RA Idealize.SL.BI
open Idealize.ShloMosaic.Pipeline (Dat Cfg Window)

namespace Cert.KernelIdeal.Rows
open Cert.KernelIdeal Cert.KernelIdeal.Gen Cert.Spec

variable (m : (ℓ : Loc nD τ sig) → Buf (Elt Ideal) ℓ)

theorem codes_at (c : Dev nD) (t : Fin cfg0.N) (r : Fin 2) (k : Fin 1024) (l : Fin 1152) :
    codesG (iblk m c 1 t) (iblk m c 2 t) (iblk m c 3 t) (ix4 0 r k l) = layCodes (aX m c) (aSh m c) (aGn m c) (smp t) r (tok t k) l := by
  show rowCodes (fun j => iblk m c 1 t (ix4 0 r k j)) (fun j => iblk m c 3 t (ix3 0 r j)) (fun j => iblk m c 2 t (ix3 0 r j)) l = _
  simp only [blk1, blk2, blk3]
  rfl

theorem scales_at (c : Dev nD) (t : Fin cfg0.N) (r : Fin 2) (a : Fin 8) (b : Fin 128) (n : Fin 12288)
    (hn : n.val = 1024 * (t.val % 12) + 128 * a.val + b.val) :
    scalesG (iblk m c 1 t) (iblk m c 2 t) (iblk m c 3 t) (ix4 0 r a b) = layScale (aX m c) (aSh m c) (aGn m c) (smp t) r n := by
  have e : n = tok t ⟨128 * a.val + b.val, by clear hn; omega⟩ := Fin.ext (by simp only [tok]; omega)
  rw [e]
  show rowScale (fun j => iblk m c 1 t (ix4 0 r ⟨128 * a.val + b.val, by omega⟩ j)) (fun j => iblk m c 3 t (ix3 0 r j)) (fun j => iblk m c 2 t (ix3 0 r j)) = _
  simp only [blk1, blk2, blk3]
  rfl

theorem coord_smp (t : Fin cfg0.N) : (grid0.coords t 0 : Fin 3) = smp t := Fin.ext (coord0 t)

theorem mix_at (c : Dev nD) (t : Fin cfg0.N) (o : Fin 16) (k : Fin 1024) :
    vtPt (grid0.coords t) (iblk m c 0 t) (iblk m c 1 t) (iblk m c 2 t) (iblk m c 3 t) (iblk m c 4 t) (iblk m c 5 t) (iblk m c 6 t) o k
      = layMix (aX m c) (aSh m c) (aGn m c) (aW m c) (aWs m c) (aB m c) (aG m c) (smp t) (tok t k) o := by
  have hs : ∀ r : Fin 2, scalesG (iblk m c 1 t) (iblk m c 2 t) (iblk m c 3 t) (ix4 0 r ⟨k.val / 128, by omega⟩ ⟨k.val % 128, by omega⟩)
      = layScale (aX m c) (aSh m c) (aGn m c) (smp t) r (tok t k) := fun r => scales_at m c t r _ _ _ (by simp only [tok]; omega)
  unfold vtPt vtG layMix
  rw [coord_smp]
  simp only [codes_at, hs, blk0, blk4, blk5, blk6]
  have e0 := v4_g m c (smp t)
  have e5 : (fun k => V m c main_v5 (ix2 o k)) = fun k => aW m c (ix2 k o) := funext fun k => v5_at m c o k
  have e6 := v6_at m c o
  have e7 := v7_at m c o
  exact congr (congr (congrArg mixOf e0)
    (congr (congr (congrFun (congrFun (congrArg yOf e5) _) _) e6) e7))
    (congr (congr (congrFun (congrFun (congrArg yOf e5) _) _) e6) e7)

theorem img_at (c : Dev nD) (t : Fin cfg0.N) (a : Fin 16) (ch : Fin 4) (X : Fin 256) (Y : Fin 192) (hY : Y.val = 16 * (t.val % 12) + a.val) :
    vPt (grid0.coords t) (iblk m c 0 t) (iblk m c 1 t) (iblk m c 2 t) (iblk m c 3 t) (iblk m c 4 t) (iblk m c 5 t) (iblk m c 6 t) (ix4 0 a ch X)
      = layImg (aX m c) (aSh m c) (aGn m c) (aW m c) (aWs m c) (aB m c) (aG m c) (smp t) Y X ch := by
  unfold vPt vG layImg
  rw [mix_at]
  congr 1
  · apply Fin.ext; show 1024 * (t.val % 12) + (128 * (a.val / 2) + X.val / 2) = 128 * (Y.val / 2) + X.val / 2; omega
  · apply Fin.ext; show 8 * (a.val % 2) + 4 * (X.val % 2) + ch.val = 8 * (Y.val % 2) + 4 * (X.val % 2) + ch.val; omega

theorem nxt_at (c : Dev nD) (t : Fin cfg0.N) (a : Fin 16) (ch : Fin 4) (X : Fin 256) (Y : Fin 192) (hY : Y.val = 16 * (t.val % 12) + a.val) :
    nxtPt (grid0.coords t) (iblk m c 0 t) (iblk m c 1 t) (iblk m c 2 t) (iblk m c 3 t) (iblk m c 4 t) (iblk m c 5 t) (iblk m c 6 t) (iblk m c 7 t) (ix4 0 a ch X)
      = layNext (aX m c) (aSh m c) (aGn m c) (aW m c) (aWs m c) (aB m c) (aG m c) (aT m c) (aTn m c) (aLat m c) (smp t) Y X ch := by
  have h := img_at m c t a ch X Y hY
  have hl : iblk m c 7 t (ix4 0 a ch X) = aLat m c (ix4 (smp t) Y X ch) := by
    rw [blk7, ← v0_at]
    congr 2
    exact Fin.ext hY.symm
  unfold nxtPt nxtG layNext
  unfold vPt at h
  rw [h, hl, coord_smp, blk0, v4_dt]

/-! ## The arrays -/

/-- An index of rank four by its coordinates. -/
theorem split4 {a b d e : ℕ} (y : (⟨4, ![a, b, d, e]⟩ : Shape).Idx) :
    y = ix4 (y 0 : Fin a) (y 1 : Fin b) (y 2 : Fin d) (y 3 : Fin e) := by
  funext i; match i with | 0 => rfl | 1 => rfl | 2 => rfl | 3 => rfl

theorem one_ix {b d e : ℕ} (y : (⟨4, ![1, b, d, e]⟩ : Shape).Idx) :
    y = ix4 (0 : Fin 1) (y 1 : Fin b) (y 2 : Fin d) (y 3 : Fin e) := by
  funext i
  match i with
  | 0 => exact Fin.ext (by have : (y 0).val < 1 := (y 0).isLt; show (y 0).val = 0; omega)
  | 1 => rfl
  | 2 => rfl
  | 3 => rfl

theorem arr10 (c : Dev nD) : (dats m 0 c).arrAt 10 cfg0.N
    = fun i => layCodes (aX m c) (aSh m c) (aGn m c) (i 0 : Fin 3) (i 1 : Fin 2) (i 2 : Fin 12288) (i 3 : Fin 1152) := by
  refine (dats m 0 c).arrAt_eq_of_covers 10 _ (by decide +kernel) fun t hf y => ?_
  rw [after0_10]
  have hj : ((cfg0.win 10).blk t).view.emb y = ix4 (smp t) (y 1 : Fin 2) (tok t (y 2)) (y 3 : Fin 1152) := by
    blk_ext [idx_ t, smp, tok]
  show codesG (iblk m c 1 t) (iblk m c 2 t) (iblk m c 3 t) y = _
  rw [hj]
  exact (congrArg (codesG (iblk m c 1 t) (iblk m c 2 t) (iblk m c 3 t)) (one_ix y)).trans (codes_at m c t _ _ _)

/-- The token of entry `(a, b)` of the array of scales. -/
def tokS (a : Fin 96) (b : Fin 128) : Fin 12288 := ⟨128 * a.val + b.val, by omega⟩

theorem arr11 (c : Dev nD) : (dats m 0 c).arrAt 11 cfg0.N
    = fun i => layScale (aX m c) (aSh m c) (aGn m c) (i 0 : Fin 3) (i 1 : Fin 2)
        (tokS (i 2 : Fin 96) (i 3 : Fin 128)) := by
  refine (dats m 0 c).arrAt_eq_of_covers 11 _ (by decide +kernel) fun t hf y => ?_
  rw [after0_11]
  have h2 : (y 2).val < 8 := (y 2).isLt
  have hj : ((cfg0.win 11).blk t).view.emb y = ix4 (smp t) (y 1 : Fin 2) (⟨8 * (t.val % 12) + (y 2).val, by omega⟩ : Fin 96) (y 3 : Fin 128) := by
    blk_ext [idx_ t, smp]
  show scalesG (iblk m c 1 t) (iblk m c 2 t) (iblk m c 3 t) y = _
  rw [hj]
  refine (congrArg (scalesG (iblk m c 1 t) (iblk m c 2 t) (iblk m c 3 t)) (one_ix y)).trans (scales_at m c t _ _ _ _ ?_)
  show 128 * (8 * (t.val % 12) + (y 2).val) + (y 3).val = 1024 * (t.val % 12) + 128 * (y 2).val + (y 3).val
  omega

theorem arr9 (c : Dev nD) : (dats m 0 c).arrAt 9 cfg0.N
    = fun i => layImg (aX m c) (aSh m c) (aGn m c) (aW m c) (aWs m c) (aB m c) (aG m c) (i 0 : Fin 3) (i 1 : Fin 192) (i 3 : Fin 256) (i 2 : Fin 4) := by
  refine (dats m 0 c).arrAt_eq_of_covers 9 _ (by decide +kernel) fun t hf y => ?_
  rw [after0_9]
  have h1 : (y 1).val < 16 := (y 1).isLt
  have hj : ((cfg0.win 9).blk t).view.emb y = ix4 (smp t) (⟨16 * (t.val % 12) + (y 1).val, by omega⟩ : Fin 192) (y 2 : Fin 4) (y 3 : Fin 256) := by
    blk_ext [idx_ t, smp]
  show vPt (grid0.coords t) (iblk m c 0 t) (iblk m c 1 t) (iblk m c 2 t) (iblk m c 3 t) (iblk m c 4 t) (iblk m c 5 t) (iblk m c 6 t) y = _
  rw [hj]
  exact (congrArg (vPt (grid0.coords t) (iblk m c 0 t) (iblk m c 1 t) (iblk m c 2 t) (iblk m c 3 t) (iblk m c 4 t) (iblk m c 5 t) (iblk m c 6 t)) (one_ix y)).trans <| img_at m c t _ _ _ _ rfl

theorem arr8 (c : Dev nD) : (dats m 0 c).arrAt 8 cfg0.N
    = fun i => layNext (aX m c) (aSh m c) (aGn m c) (aW m c) (aWs m c) (aB m c) (aG m c) (aT m c) (aTn m c) (aLat m c)
        (i 0 : Fin 3) (i 1 : Fin 192) (i 3 : Fin 256) (i 2 : Fin 4) := by
  refine (dats m 0 c).arrAt_eq_of_covers 8 _ (by decide +kernel) fun t hf y => ?_
  rw [after0_8]
  have h1 : (y 1).val < 16 := (y 1).isLt
  have hj : ((cfg0.win 8).blk t).view.emb y = ix4 (smp t) (⟨16 * (t.val % 12) + (y 1).val, by omega⟩ : Fin 192) (y 2 : Fin 4) (y 3 : Fin 256) := by
    blk_ext [idx_ t, smp]
  show nxtPt (grid0.coords t) (iblk m c 0 t) (iblk m c 1 t) (iblk m c 2 t) (iblk m c 3 t) (iblk m c 4 t) (iblk m c 5 t) (iblk m c 6 t) (iblk m c 7 t) y = _
  rw [hj]
  exact (congrArg (nxtPt (grid0.coords t) (iblk m c 0 t) (iblk m c 1 t) (iblk m c 2 t) (iblk m c 3 t) (iblk m c 4 t) (iblk m c 5 t) (iblk m c 6 t) (iblk m c 7 t)) (one_ix y)).trans <| nxt_at m c t _ _ _ _ rfl

end Cert.KernelIdeal.Rows

end
-- ==== Proof.KTail.lean ====
/-
  The kernel's four results after its last host operations, at an index: the functions of Layer.lean.
-/
module

public import proofs.«01_k».proof.Proof.KArr
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.KernelIdeal.Rows
open Cert.KernelIdeal Cert.KernelIdeal.Gen Cert.Spec

variable (m : (ℓ : Loc nD τ sig) → Buf (Elt Ideal) ℓ)

theorem tail9 (W : Valuation τ sig (Elt Ideal)) (b : Fin 3) (Y : Fin 192) (X : Fin 256) (o : Fin 4) :
    StableHlo.after (List.flatten [hostOps1]) W (Proc.devRef .tc main_v9) (ix4 b Y X o) = W (Proc.devRef .tc main_v8_0) (ix4 b Y o X) := by
  simp only [hostOps1, List.flatten_cons, List.flatten_nil, List.append_nil]
  after_reads_at

theorem tail10 (W : Valuation τ sig (Elt Ideal)) (b : Fin 3) (Y : Fin 192) (X : Fin 256) (o : Fin 4) :
    StableHlo.after (List.flatten [hostOps1]) W (Proc.devRef .tc main_v10) (ix4 b Y X o) = W (Proc.devRef .tc main_v8_1) (ix4 b Y o X) := by
  simp only [hostOps1, List.flatten_cons, List.flatten_nil, List.append_nil]
  after_reads_at

theorem tail11 (W : Valuation τ sig (Elt Ideal)) (b : Fin 3) (r : Fin 2) (n : Fin 12288) :
    StableHlo.after (List.flatten [hostOps1]) W (Proc.devRef .tc main_v11) (ix3 b r n)
      = W (Proc.devRef .tc main_v8_3) (ix4 b r (⟨n.val / 128, by omega⟩ : Fin 96) (⟨n.val % 128, by omega⟩ : Fin 128)) := by
  simp only [hostOps1, List.flatten_cons, List.flatten_nil, List.append_nil]
  after_reads_at

/-- What the program's other buffers hold at the end. -/
abbrev fin (c : Dev nD) (b : Ref sig .tc) : Buf (Elt Ideal) ((c.tc : Thread nD τ).loc b) :=
  Pipeline.afterTail₀ cfgs (dats m) 0 (V0 m) [hostOps1] c b

theorem arrW (c : Dev nD) (w : Fin cfg0.W) :
    Pipeline.withArrays (τ := τ) cfg0.spec c (V0 m c) (fun w => (dats m 0 c).arrAt w cfg0.N) (Proc.devRef .tc (Pipeline.arrRef cfg0.spec w))
      = (dats m 0 c).arrAt w cfg0.N :=
  Pipeline.withArrays_arr cfg0.spec launch0.win.arr_inj c (V0 m c) _ w

theorem fin9 (c : Dev nD) (b : Fin 3) (Y : Fin 192) (X : Fin 256) (o : Fin 4) :
    fin m c main_v9 (ix4 b Y X o)
      = layNext (aX m c) (aSh m c) (aGn m c) (aW m c) (aWs m c) (aB m c) (aG m c) (aT m c) (aTn m c) (aLat m c) b Y X o :=
  (tail9 _ b Y X o).trans ((congrFun (arrW m c 8) (ix4 b Y o X)).trans (congrFun (arr8 m c) (ix4 b Y o X)))

theorem fin10 (c : Dev nD) (b : Fin 3) (Y : Fin 192) (X : Fin 256) (o : Fin 4) :
    fin m c main_v10 (ix4 b Y X o)
      = layImg (aX m c) (aSh m c) (aGn m c) (aW m c) (aWs m c) (aB m c) (aG m c) b Y X o :=
  (tail10 _ b Y X o).trans ((congrFun (arrW m c 9) (ix4 b Y o X)).trans (congrFun (arr9 m c) (ix4 b Y o X)))

theorem fin11 (c : Dev nD) (b : Fin 3) (r : Fin 2) (n : Fin 12288) :
    fin m c main_v11 (ix3 b r n) = layScale (aX m c) (aSh m c) (aGn m c) b r n := by
  refine (tail11 _ b r n).trans ((congrFun (arrW m c 11) (ix4 b r _ _)).trans ((congrFun (arr11 m c) (ix4 b r _ _)).trans ?_))
  exact congrArg (layScale (aX m c) (aSh m c) (aGn m c) b r) (Fin.ext (Nat.div_add_mod n.val 128))

end Cert.KernelIdeal.Rows
-- ==== Proof.Scale.lean ====
/-
  The scale of a row: the exponent field the kernel searches for bit by bit gives the least power of two above the quotient, and
  the inverse it reads off the field is one over that power.
-/
module

public import proofs.«01_k».proof.Proof.Spec

@[expose] public section

set_option maxRecDepth 16384

noncomputable section

open Idealize.ShloMosaic

namespace Cert.Spec

/-- The word with exponent field `f` and nothing else. -/
def W (f : Nat) : BitVec 32 := BitVec.ofNat 32 (f * 8388608)

/-- The float with exponent field `f` and fraction zero. -/
def F (f : Nat) : EReal := Ideal.ofBits FTy.f32 (W f)

theorem W_fields : ∀ e : Fin 256, (BitVec.extractLsb' 31 1 (W e)) = 0#1 ∧ (BitVec.extractLsb' 23 8 (W e)).toNat = e ∧
    (BitVec.extractLsb' 0 23 (W e)).toNat = 0 := by decide +kernel

theorem F_zero : F 0 = 0 := by
  obtain ⟨h1, h2, h3⟩ := W_fields 0
  show Ideal.ieee 8 23 (W 0) = 0
  unfold Ideal.ieee
  simp only [Fin.val_zero] at h1 h2 h3
  simp [h1, h2, h3]

theorem F_top : F 255 = ⊤ := by
  obtain ⟨h1, h2, h3⟩ := W_fields 255
  rw [show ((255 : Fin 256) : Nat) = 255 from rfl] at h1 h2 h3
  show Ideal.ieee 8 23 (W 255) = ⊤
  unfold Ideal.ieee
  simp [h1, h2, h3]

theorem F_pow (e : Nat) (h : 1 ≤ e) (h' : e ≤ 254) : F e = (((2 : ℝ) ^ ((e : ℤ) - 127) : ℝ) : EReal) := by
  obtain ⟨h1, h2, h3⟩ := W_fields ⟨e, by omega⟩
  dsimp only at h1 h2 h3
  show Ideal.ieee 8 23 (W e) = _
  unfold Ideal.ieee
  simp only [show (8 + 23 : Nat) = 31 from rfl, h1, h2, h3]
  rw [if_neg (by omega), if_neg (by omega)]
  have h0 : ((0#1 == 1#1) : Bool) = false := by decide
  rw [h0]
  congr 1
  simp only [Bool.false_eq_true, if_false, one_mul, add_zero]
  have : ((2 ^ 23 : Nat) : ℝ) = (2 : ℝ) ^ (23 : ℤ) := by norm_num
  rw [this, ← zpow_add₀ (by norm_num : (2 : ℝ) ≠ 0)]
  congr 1
  norm_num

theorem F_lt (e e' : Nat) (h : e < e') (h' : e' ≤ 255) : F e < F e' := by
  rcases Nat.eq_zero_or_pos e with rfl | he
  · rw [F_zero]
    rcases Nat.lt_or_ge 254 e' with h2 | h2
    · obtain rfl : e' = 255 := by omega
      rw [F_top]; exact EReal.zero_lt_top
    · rw [F_pow e' (by omega) h2]
      exact_mod_cast (by positivity : (0 : ℝ) < (2 : ℝ) ^ ((e' : ℤ) - 127))
  · rw [F_pow e he (by omega)]
    rcases Nat.lt_or_ge 254 e' with h2 | h2
    · obtain rfl : e' = 255 := by omega
      rw [F_top]; exact EReal.coe_lt_top _
    · rw [F_pow e' (by omega) h2]
      exact EReal.coe_lt_coe_iff.mpr (zpow_lt_zpow_right₀ (by norm_num) (by omega))

theorem F_le (e e' : Nat) (h : e ≤ e') (h' : e' ≤ 255) : F e ≤ F e' := by
  rcases Nat.eq_or_lt_of_le h with rfl | h2
  · exact le_refl _
  · exact le_of_lt (F_lt e e' h2 h')

theorem or_W : ∀ (j : Fin 8) (f : Fin 256), IntOp.ori (W f) (W (2 ^ j.val)) = W (f ||| 2 ^ j.val) := by decide +kernel

theorem or_bound (j : Fin 8) (f : Nat) (hf : f < 256) : 1 ≤ f ||| 2 ^ j.val ∧ f ||| 2 ^ j.val < 256 := by
  refine ⟨Nat.one_le_iff_ne_zero.mpr fun h => ?_, ?_⟩
  · have h1 : 2 ^ j.val ≤ f ||| 2 ^ j.val := Nat.right_le_or
    have h2 := Nat.two_pow_pos j.val
    rw [h] at h1
    omega
  · exact Nat.or_lt_two_pow (n := 8) hf (Nat.pow_lt_pow_right (by norm_num) j.isLt)

/-- A step of the search, on fields: `E` is the field looked for. -/
def stepF (E f b : Nat) : Nat := if E < f ||| b then f else f ||| b

/-- The search on fields. -/
def searchF (E : Nat) : Nat :=
  stepF E (stepF E (stepF E (stepF E (stepF E (stepF E (stepF E (stepF E 0 (2 ^ 7)) (2 ^ 6)) (2 ^ 5)) (2 ^ 4)) (2 ^ 3)) (2 ^ 2)) (2 ^ 1)) (2 ^ 0)

theorem searchF_eq : ∀ E : Fin 256, searchF E = E := by decide +kernel

/-- `E` is the exponent field of `q`. -/
def IsField (q : EReal) (E : Nat) : Prop := ∀ e, 1 ≤ e → e ≤ 255 → (q < F e ↔ E < e)

theorem exists_field (q : EReal) (h : q < F 253) : ∃ E, E ≤ 252 ∧ IsField q E := by
  classical
  have hex : ∃ n, q < F (n + 1) := ⟨252, h⟩
  refine ⟨Nat.find hex, Nat.find_min' hex h, fun e h1 h2 => ⟨fun hq => ?_, fun hE => ?_⟩⟩
  · have := Nat.find_min' hex (m := e - 1) (by rwa [Nat.sub_add_cancel h1])
    omega
  · exact lt_of_lt_of_le (Nat.find_spec hex) (F_le _ _ (by omega) h2)

theorem step_field (q : EReal) (E f : Nat) (j : Fin 8) (hE : IsField q E) (hf : f < 256) :
    step q (W f) (W (2 ^ j.val)) = W (stepF E f (2 ^ j.val)) ∧ stepF E f (2 ^ j.val) < 256 := by
  obtain ⟨b1, b2⟩ := or_bound j f hf
  have hb := hE _ b1 (by omega)
  have ho := or_W j ⟨f, hf⟩
  dsimp only at ho
  unfold step stepF
  rw [ho]
  rw [show Ideal.ofBits FTy.f32 (W (f ||| 2 ^ j.val)) = F (f ||| 2 ^ j.val) from rfl]
  by_cases hlt : E < f ||| 2 ^ j.val
  · rw [if_pos (hb.mpr hlt), if_pos hlt]; exact ⟨rfl, hf⟩
  · rw [if_neg (fun h => hlt (hb.mp h)), if_neg hlt]; exact ⟨rfl, b2⟩

theorem search_field (q : EReal) (E : Nat) (hE : IsField q E) (h : E ≤ 255) : search q = W E := by
  have s7 := step_field q E 0 7 hE (by omega)
  have s6 := step_field q E _ 6 hE s7.2
  have s5 := step_field q E _ 5 hE s6.2
  have s4 := step_field q E _ 4 hE s5.2
  have s3 := step_field q E _ 3 hE s4.2
  have s2 := step_field q E _ 2 hE s3.2
  have s1 := step_field q E _ 1 hE s2.2
  have s0 := step_field q E _ 0 hE s1.2
  have hs : W (searchF E) = W E := congrArg W (searchF_eq ⟨E, by omega⟩)
  rw [← hs]
  refine Eq.trans ?_ s0.1
  rw [← s1.1, ← s2.1, ← s3.1, ← s4.1, ← s5.1, ← s6.1, ← s7.1]
  rfl

theorem W_zero : ∀ E : Fin 256, (W E = 0#32 ↔ (E : Nat) = 0) := by decide +kernel
theorem W_add : ∀ E : Fin 255, IntOp.addi (W E) 8388608#32 = W (E + 1) := by decide +kernel
theorem W_sub : ∀ E : Fin 254, IntOp.subi 2122317824#32 (W E) = W (253 - E) := by decide +kernel

theorem scaleOf_field (q : EReal) (E : Nat) (hE : IsField q E) (h : E ≤ 252) : scaleOf q = if E = 0 then 1 else F (E + 1) := by
  unfold scaleOf
  rw [search_field q E hE (by omega)]
  have hz := W_zero ⟨E, by omega⟩
  have ha := W_add ⟨E, by omega⟩
  dsimp only at hz ha
  rw [ha]
  by_cases h0 : E = 0
  · rw [if_pos (hz.mpr h0), if_pos h0]
  · rw [if_neg (fun h => h0 (hz.mp h)), if_neg h0]; rfl

theorem invOf_field (q : EReal) (E : Nat) (hE : IsField q E) (h : E ≤ 252) : invOf q = if E = 0 then 1 else F (253 - E) := by
  unfold invOf
  rw [search_field q E hE (by omega)]
  have hz := W_zero ⟨E, by omega⟩
  have ha := W_sub ⟨E, by omega⟩
  dsimp only at hz ha
  rw [ha]
  by_cases h0 : E = 0
  · rw [if_pos (hz.mpr h0), if_pos h0]
  · rw [if_neg (fun h => h0 (hz.mp h)), if_neg h0]; rfl

/-- The least of 2^-125 … 2^127 above `q`, by the reference's minimum: an entry not above `q` counts as infinite. -/
def leastPow (q : EReal) : EReal :=
  Finset.fold min (⊤ : EReal) (fun k : Fin 253 => if q < F (k.val + 2) then F (k.val + 2) else ⊤) Finset.univ

/-- The reference's scale. -/
def refScale (q : EReal) : EReal := if q < F 1 then 1 else leastPow q

theorem leastPow_field (q : EReal) (E : Nat) (hE : IsField q E) (h1 : 1 ≤ E) (h : E ≤ 252) : leastPow q = F (E + 1) := by
  unfold leastPow
  apply le_antisymm
  · rw [Finset.fold_min_le]
    right
    refine ⟨⟨E - 1, by omega⟩, Finset.mem_univ _, ?_⟩
    dsimp only
    rw [show E - 1 + 2 = E + 1 by omega, if_pos ((hE (E + 1) (by omega) (by omega)).mpr (by omega))]
  · rw [Finset.le_fold_min]
    refine ⟨le_top, fun k _ => ?_⟩
    have hk := k.isLt
    have := hE (k.val + 2) (by omega) (by omega)
    split_ifs with hq
    · exact F_le _ _ (by have := this.mp hq; omega) (by omega)
    · exact le_top

theorem scaleOf_eq (q : EReal) (h : q < F 253) : scaleOf q = refScale q := by
  obtain ⟨E, h1, hE⟩ := exists_field q h
  rw [scaleOf_field q E hE h1]
  unfold refScale
  by_cases h0 : E = 0
  · rw [if_pos h0, if_pos ((hE 1 (by omega) (by omega)).mpr (by omega))]
  · rw [if_neg h0, if_neg (fun h => h0 (by have := (hE 1 (by omega) (by omega)).mp h; omega)),
      leastPow_field q E hE (by omega) h1]

theorem invOf_eq (q : EReal) (h : q < F 253) : invOf q = Ideal.div 1 (refScale q) := by
  rw [← scaleOf_eq q h]
  obtain ⟨E, h1, hE⟩ := exists_field q h
  rw [scaleOf_field q E hE h1, invOf_field q E hE h1]
  by_cases h0 : E = 0
  · rw [if_pos h0, if_pos h0]
    unfold Ideal.div
    rw [if_neg one_ne_zero, one_mul]
    exact_mod_cast (EReal.coe_inv 1).symm.trans (by norm_num) |>.symm
  · rw [if_neg h0, if_neg h0]
    unfold Ideal.div
    rw [F_pow (E + 1) (by omega) (by omega), F_pow (253 - E) (by omega) (by omega)]
    rw [if_neg (by exact_mod_cast (by positivity : (2 : ℝ) ^ (((E + 1 : Nat) : ℤ) - 127) ≠ 0)), one_mul, ← EReal.coe_inv,
      ← zpow_neg]
    congr 2
    push_cast [Nat.cast_sub (show E ≤ 253 by omega)]
    ring

end Cert.Spec
-- ==== Proof.RefPre.lean ====
/-
  The reference before its region: the modulated layer norm, the tokens' quotients and their scales.
-/
module

public import proofs.«01_k».proof.Proof.Gen.ReferenceIdeal.Frame
public import proofs.«01_k».proof.Proof.Scale
public import proofs.«01_k».proof.Proof.Layer
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.Spec

variable (m : (ℓ : Loc nD τ sig) → Buf (Elt Ideal) ℓ)

/-- The operations before the region. -/
abbrev opsPre : List (HloOp τ sig (Elt Ideal)) := List.flatten [hostOps0, hostOps0_1, hostOps0_2, hostOps0_3, hostOps0_4]

theorem after_split (n : ℕ) (L : List (HloOp τ sig (Elt Ideal))) (V : Valuation τ sig (Elt Ideal)) :
    StableHlo.after L V = StableHlo.after (L.drop n) (StableHlo.after (L.take n) V) := by
  induction n generalizing L V with
  | zero => rfl
  | succ n ih =>
    cases L with
    | nil => rfl
    | cons a L => simp only [List.take_succ_cons, List.drop_succ_cons, StableHlo.after_cons]; exact ih L _

/-- The greatest of a row, as the reference's reduction writes it. -/
theorem rowMax_of (X : FVec Ideal S3x2x12288x1152 .f32) (b : Fin 3) (r : Fin 2) (n : Fin 12288) :
    Host.reduce FloatOps.maximumf X (constant (F := Ideal) S_ FTy.f32 0xFF800000#32) reducesTo_S3x2x12288x1152_S3x2x12288_d3 h_S_ (ix3 b r n)
      = Finset.fold max (Ideal.ofBits FTy.f32 0xFF800000#32) (fun l => X (ix4 b r n l)) Finset.univ := by
  have h : S3x2x12288x1152.Reduces [3] S3x2x12288 := by decide
  refine (Host.reduce_eq_fold_single (FloatOps.maximumf (F := Ideal) (φ := .f32)) X _ reducesTo_S3x2x12288x1152_S3x2x12288_d3 h h_S_ (ix3 b r n)).trans ?_
  refine congrArg (fun f => Finset.fold max (Ideal.ofBits FTy.f32 0xFF800000#32) f Finset.univ) (funext fun l => congrArg X ?_)
  funext i; match i with | 0 => rfl | 1 => rfl | 2 => rfl | 3 => rfl

/-- The least of a row, as the reference's reduction writes it. -/
theorem rowMin_of (X : FVec Ideal S3x2x12288x253 .f32) (b : Fin 3) (r : Fin 2) (n : Fin 12288) :
    Host.reduce FloatOps.minimumf X (constant (F := Ideal) S_ FTy.f32 0x7F800000#32) reducesTo_S3x2x12288x253_S3x2x12288_d3 h_S_ (ix3 b r n)
      = Finset.fold min (Ideal.ofBits FTy.f32 0x7F800000#32) (fun l => X (ix4 b r n l)) Finset.univ := by
  have h : S3x2x12288x253.Reduces [3] S3x2x12288 := by decide
  refine (Host.reduce_eq_fold_single (FloatOps.minimumf (F := Ideal) (φ := .f32)) X _ reducesTo_S3x2x12288x253_S3x2x12288_d3 h h_S_ (ix3 b r n)).trans ?_
  refine congrArg (fun f => Finset.fold min (Ideal.ofBits FTy.f32 0x7F800000#32) f Finset.univ) (funext fun l => congrArg X ?_)
  funext i; match i with | 0 => rfl | 1 => rfl | 2 => rfl | 3 => rfl

theorem over448_at (R : FVec Ideal S3x2x12288 .f32) (b : Fin 3) (r : Fin 2) (n : Fin 12288) :
    mulf R (broadcastInDim S3x2x12288 ![] bcast_S_S3x2x12288 (constant (F := Ideal) S_ FTy.f32 0x3B124925#32)) (ix3 b r n)
      = R (ix3 b r n) * Ideal.ofBits FTy.f32 0x3B124925#32 := by
  pointwise

theorem absf_at (X : FVec Ideal S3x2x12288x1152 .f32) (i : S3x2x12288x1152.Idx) : Host.absf X i = FloatOps.absf (X i) := by
  pointwise

theorem qVec_at (X : FVec Ideal S3x2x12288x1152 .f32) (b : Fin 3) (r : Fin 2) (n : Fin 12288) :
    mulf (Host.reduce FloatOps.maximumf (Host.absf X) (constant (F := Ideal) S_ FTy.f32 0xFF800000#32) reducesTo_S3x2x12288x1152_S3x2x12288_d3 h_S_)
      (broadcastInDim S3x2x12288 ![] bcast_S_S3x2x12288 (constant (F := Ideal) S_ FTy.f32 0x3B124925#32)) (ix3 b r n)
      = rowQ (fun l => X (ix4 b r n l)) := by
  rw [over448_at, rowMax_of]
  unfold rowQ rowMax
  simp only [absf_at]

/-- The quotients, from the modulated layer norm. -/
theorem q_of (V : Valuation τ sig (Elt Ideal)) (b : Fin 3) (r : Fin 2) (n : Fin 12288) :
    StableHlo.after (opsPre.drop 31) V (Proc.devRef .tc main_v28) (ix3 b r n)
      = rowQ (fun l => V (Proc.devRef .tc main_v24) (ix4 b r n l)) := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results
  exact qVec_at _ b r n

theorem keep24 (V : Valuation τ sig (Elt Ideal)) (i : S3x2x12288x1152.Idx) :
    StableHlo.after (opsPre.drop 31) V (Proc.devRef .tc main_v24) i = V (Proc.devRef .tc main_v24) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

/-! ## The scales -/

theorem two_bits : Ideal.ofBits FTy.f32 0x40000000#32 = ((2 : ℝ) : EReal) := by
  have h := F_pow 128 (by omega) (by omega)
  have e : F 128 = Ideal.ofBits FTy.f32 0x40000000#32 := by unfold F; rw [show W 128 = 0x40000000#32 by decide]
  rw [← e, h]; norm_num

theorem expo : ∀ k : Fin 253, (IntOp.addi (4294967171#32) (BitVec.ofNat 32 k.val)).toInt = (k.val : ℤ) - 125 := by decide +kernel

/-- The powers of two the reference lists. -/
theorem pow_at (k : Fin 253) :
    Ideal.pow (Ideal.ofBits FTy.f32 0x40000000#32) (FloatOps.sitofp (F := Ideal) FTy.f32 (IntOp.addi (4294967171#32) (BitVec.ofNat 32 k.val))) = F (k.val + 2) := by
  rw [two_bits, F_pow _ (by omega) (by omega)]
  show Ideal.pow ((2 : ℝ) : EReal) (((IntOp.addi (4294967171#32) (BitVec.ofNat 32 k.val)).toInt : ℝ) : EReal) = _
  rw [expo, Ideal.pow_coe_coe]
  congr 1
  have e : ((k.val + 2 : ℕ) : ℤ) - 127 = (k.val : ℤ) - 125 := by push_cast; ring
  rw [e]
  exact Real.rpow_intCast 2 _

theorem top_bits : Ideal.ofBits FTy.f32 0x7F800000#32 = ⊤ := by
  have e : F 255 = Ideal.ofBits FTy.f32 0x7F800000#32 := by unfold F; rw [show W 255 = 0x7F800000#32 by decide]
  rw [← e, F_top]

theorem one_bits : Ideal.ofBits FTy.f32 0x3F800000#32 = 1 := by
  have e : F 127 = Ideal.ofBits FTy.f32 0x3F800000#32 := by unfold F; rw [show W 127 = 0x3F800000#32 by decide]
  rw [← e, F_pow 127 (by omega) (by omega)]; norm_num

theorem least_bits : Ideal.ofBits FTy.f32 0x00800000#32 = F 1 := by
  unfold F; rw [show W 1 = 0x00800000#32 by decide]

/-- An entry of the table the least power is taken over. -/
theorem v40_of (V : Valuation τ sig (Elt Ideal)) (b : Fin 3) (r : Fin 2) (n : Fin 12288) (k : Fin 253) (q : EReal)
    (hq : V (Proc.devRef .tc main_v28) (ix3 b r n) = q) :
    StableHlo.after ((opsPre.drop 37).take 18) V (Proc.devRef .tc main_v40) (ix4 b r n k)
      = (if q < F (k.val + 2) then F (k.val + 2) else ⊤ : EReal) := by
  subst hq
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_reads_at
  rw [pow_at]
  exact if_congr Iff.rfl rfl top_bits

theorem keep28 (V : Valuation τ sig (Elt Ideal)) (i : S3x2x12288.Idx) :
    StableHlo.after ((opsPre.drop 37).take 18) V (Proc.devRef .tc main_v28) i = V (Proc.devRef .tc main_v28) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

theorem v41_of (V : Valuation τ sig (Elt Ideal)) (b : Fin 3) (r : Fin 2) (n : Fin 12288) :
    StableHlo.after ((opsPre.drop 55).take 2) V (Proc.devRef .tc main_v41) (ix3 b r n)
      = Finset.fold min (Ideal.ofBits FTy.f32 0x7F800000#32) (fun l => V (Proc.devRef .tc main_v40) (ix4 b r n l)) Finset.univ := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results
  exact rowMin_of _ b r n

theorem keep28' (V : Valuation τ sig (Elt Ideal)) (i : S3x2x12288.Idx) :
    StableHlo.after ((opsPre.drop 55).take 2) V (Proc.devRef .tc main_v28) i = V (Proc.devRef .tc main_v28) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

theorem v44_of (V : Valuation τ sig (Elt Ideal)) (b : Fin 3) (r : Fin 2) (n : Fin 12288) (q l : EReal)
    (hq : V (Proc.devRef .tc main_v28) (ix3 b r n) = q) (hl : V (Proc.devRef .tc main_v41) (ix3 b r n) = l) :
    StableHlo.after (opsPre.drop 57) V (Proc.devRef .tc main_v44) (ix3 b r n) = (if q < F 1 then 1 else l : EReal) := by
  subst hq hl
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_reads_at
  rw [least_bits]
  exact if_congr Iff.rfl one_bits rfl

theorem drop_55 : (opsPre.drop 37).drop 18 = opsPre.drop 55 := by rw [List.drop_drop]
theorem drop_57 : (opsPre.drop 55).drop 2 = opsPre.drop 57 := by rw [List.drop_drop]

/-- The scales, from the quotients. -/
theorem scale_of (V : Valuation τ sig (Elt Ideal)) (b : Fin 3) (r : Fin 2) (n : Fin 12288) (q : EReal)
    (hq : V (Proc.devRef .tc main_v28) (ix3 b r n) = q) :
    StableHlo.after (opsPre.drop 37) V (Proc.devRef .tc main_v44) (ix3 b r n) = refScale q := by
  rw [after_split 18 (opsPre.drop 37), drop_55, after_split 2 (opsPre.drop 55), drop_57]
  refine v44_of _ b r n q (leastPow q) ((keep28' _ _).trans ((keep28 _ _).trans hq)) ((v41_of _ b r n).trans ?_)
  rw [top_bits]
  exact congrArg (fun f => Finset.fold min (⊤ : EReal) f Finset.univ) (funext fun k => v40_of V b r n k q hq)

theorem keep28'' (V : Valuation τ sig (Elt Ideal)) (i : S3x2x12288.Idx) :
    StableHlo.after (opsPre.drop 37) V (Proc.devRef .tc main_v28) i = V (Proc.devRef .tc main_v28) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

/-! ## What the region is given -/

/-- The sample, branch and token of a row of the region's operands. -/
def rB (i : Fin 73728) : Fin 3 := ⟨i.val / 24576, by omega⟩
def rR (i : Fin 73728) : Fin 2 := ⟨i.val / 12288 % 2, by omega⟩
def rN (i : Fin 73728) : Fin 12288 := ⟨i.val % 12288, by omega⟩

theorem v48_of (V : Valuation τ sig (Elt Ideal)) (i : Fin 73728) :
    StableHlo.after (opsPre.drop 64) V (Proc.devRef .tc main_v48) (ix2 i 0)
      = Ideal.div 1 (V (Proc.devRef .tc main_v44) (ix3 (⟨i.val / 24576, by omega⟩ : Fin 3) (⟨i.val / 12288 % 2, by omega⟩ : Fin 2) (⟨i.val % 12288, by omega⟩ : Fin 12288))) := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_reads_at

theorem v45_of (V : Valuation τ sig (Elt Ideal)) (i : Fin 73728) (l : Fin 1152) :
    StableHlo.after (opsPre.drop 64) V (Proc.devRef .tc main_v45) (ix2 i l)
      = V (Proc.devRef .tc main_v24) (ix4 (⟨i.val / 24576, by omega⟩ : Fin 3) (⟨i.val / 12288 % 2, by omega⟩ : Fin 2) (⟨i.val % 12288, by omega⟩ : Fin 12288) l) := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_reads_at

theorem keep44 (V : Valuation τ sig (Elt Ideal)) (i : S3x2x12288.Idx) :
    StableHlo.after (opsPre.drop 64) V (Proc.devRef .tc main_v44) i = V (Proc.devRef .tc main_v44) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

theorem keep24' (V : Valuation τ sig (Elt Ideal)) (i : S3x2x12288x1152.Idx) :
    StableHlo.after (opsPre.drop 64) V (Proc.devRef .tc main_v24) i = V (Proc.devRef .tc main_v24) i := by
  simp only [opsPre, hostOps0, hostOps0_1, hostOps0_2, hostOps0_3, hostOps0_4, List.flatten_cons, List.flatten_nil, List.append_nil, List.cons_append, List.nil_append, List.drop_succ_cons, List.drop_zero, List.take_succ_cons, List.take_zero]
  after_results

/-! ## Over the arguments -/

abbrev aX (c : Dev nD) : A3x2x12288x1152.Idx → EReal := m ((c.tc : Thread nD τ).loc main_arg0)
abbrev aSh (c : Dev nD) : A3x2x1152.Idx → EReal := m ((c.tc : Thread nD τ).loc main_arg1)
abbrev aGn (c : Dev nD) : A3x2x1152.Idx → EReal := m ((c.tc : Thread nD τ).loc main_arg2)

/-- An entry of the modulated layer norm. -/
theorem h_at (c : Dev nD) (b : Fin 3) (r : Fin 2) (n : Fin 12288) (l : Fin 1152) :
    V m c main_v24 (ix4 b r n l) = layH (aX m c) (aSh m c) (aGn m c) b r n l := by
  show StableHlo.after opsPre (fun b => m (c, b)) (Proc.devRef .tc main_v24) (ix4 b r n l) = _
  simp only [opsPre, hostOps0, hostOps0_1, hostOps0_2, hostOps0_3, hostOps0_4, List.flatten_cons, List.flatten_nil, List.append_nil, List.cons_append, List.nil_append]
  after_reads_at
  rfl

/-- The quotient of a token. -/
theorem q_at (c : Dev nD) (b : Fin 3) (r : Fin 2) (n : Fin 12288) :
    V m c main_v28 (ix3 b r n) = rowQ (layH (aX m c) (aSh m c) (aGn m c) b r n) := by
  have hh : ∀ l, StableHlo.after (opsPre.take 31) (fun b => m (c, b)) (Proc.devRef .tc main_v24) (ix4 b r n l) = layH (aX m c) (aSh m c) (aGn m c) b r n l := fun l => by
    refine (keep24 _ _).symm.trans ?_
    rw [← after_split]; exact h_at m c b r n l
  show StableHlo.after opsPre (fun b => m (c, b)) (Proc.devRef .tc main_v28) (ix3 b r n) = _
  rw [after_split 31 opsPre, q_of]
  exact congrArg rowQ (funext hh)

/-- The scale of a token. -/
theorem s_at (c : Dev nD) (b : Fin 3) (r : Fin 2) (n : Fin 12288) :
    V m c main_v44 (ix3 b r n) = refScale (rowQ (layH (aX m c) (aSh m c) (aGn m c) b r n)) := by
  show StableHlo.after opsPre (fun b => m (c, b)) (Proc.devRef .tc main_v44) (ix3 b r n) = _
  rw [after_split 37 opsPre]
  refine scale_of _ b r n _ ?_
  refine (keep28'' _ _).symm.trans ?_
  rw [← after_split]
  exact q_at m c b r n

/-- The region's first operand. -/
theorem op0_at (c : Dev nD) (i : Fin 73728) (l : Fin 1152) :
    V m c main_v45 (ix2 i l) = layH (aX m c) (aSh m c) (aGn m c) (rB i) (rR i) (rN i) l := by
  show StableHlo.after opsPre (fun b => m (c, b)) (Proc.devRef .tc main_v45) (ix2 i l) = _
  rw [after_split 64 opsPre, v45_of]
  refine (keep24' _ _).symm.trans ?_
  rw [← after_split]
  exact h_at m c _ _ _ l

/-- The region's second operand. -/
theorem op1_at (c : Dev nD) (i : Fin 73728) :
    V m c main_v48 (ix2 i 0) = Ideal.div 1 (refScale (rowQ (layH (aX m c) (aSh m c) (aGn m c) (rB i) (rR i) (rN i)))) := by
  show StableHlo.after opsPre (fun b => m (c, b)) (Proc.devRef .tc main_v48) (ix2 i 0) = _
  rw [after_split 64 opsPre, v48_of]
  refine congrArg (Ideal.div 1) ((keep44 _ _).symm.trans ?_)
  rw [← after_split]
  exact s_at m c (rB i) (rR i) (rN i)

end Cert.ReferenceIdeal.Val
-- ==== Proof.RefBlk.lean ====
/-
  The reference's region: its blocks and its body's stores, at an index.
-/
module

public import proofs.«01_k».proof.Proof.RefPre

@[expose] public section

set_option maxRecDepth 16384

noncomputable section

open Idealize.ShloMosaic Idealize.ShloMosaic.TcCoe Idealize.ShloMosaic.Tactic
open Idealize.SL Idealize.SL.RA Idealize.SL.BI

namespace Cert.ReferenceIdeal.Val
open Cert.ReferenceIdeal Cert.ReferenceIdeal.Gen Cert.Spec

variable (m : (ℓ : Loc nD τ sig) → Buf (Elt Ideal) ℓ)

abbrev aW (c : Dev nD) : A1152x16.Idx → EReal := m ((c.tc : Thread nD τ).loc main_arg3)

/-- The codes of a token, as the reference divides. -/
def refCodes (x : A3x2x12288x1152.Idx → EReal) (sh gn : A3x2x1152.Idx → EReal) (b : Fin 3) (r : Fin 2) (n : Fin 12288) (l : Fin 1152) : EReal :=
  codeOf (layH x sh gn b r n l) (Ideal.div 1 (refScale (rowQ (layH x sh gn b r n))))

theorem idx_ : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem blk0 (c : Dev nD) (t : Fin cfg0.N) (i : Fin 73728) (l : Fin 1152) : iblk m c 0 t (ix2 i l) = V m c main_v45 (ix2 i l) := by
  blk_ext [iblk, idx_ t]

theorem emb1 (t : Fin cfg0.N) (y : ((cfg0.win 1).xblock (cfg0.grid.coords t)).Idx) : ((cfg0.win 1).blk t).view.emb y = y := by
  blk_ext [idx_ t]

theorem read1 (t : Fin cfg0.N) (y : ((cfg0.win 1).xblock (cfg0.grid.coords t)).Idx) (W : Valuation τ sig (Elt Ideal)) :
    ((cfg0.win 1).blk t).view.read (Elt Ideal) (W (Proc.devRef .tc (Pipeline.arrRef spec0 1))) y
      = W (Proc.devRef .tc (Pipeline.arrRef spec0 1)) y := by
  refine Eq.trans (b := W (Proc.devRef .tc (Pipeline.arrRef spec0 1)) (((cfg0.win 1).blk t).view.emb y)) ?_ ?_
  · rfl
  · exact congrArg (W (Proc.devRef .tc (Pipeline.arrRef spec0 1))) (emb1 t y)

theorem blk1 (c : Dev nD) (t : Fin cfg0.N) (i : Fin 73728) : iblk m c 1 t (ix2 i 0) = V m c main_v48 (ix2 i 0) := by
  unfold iblk
  exact read1 t (ix2 i 0) (V0 m c)

theorem blk2 (c : Dev nD) (t : Fin cfg0.N) (k : Fin 1152) (o : Fin 16) : iblk m c 2 t (ix2 k o) = aW m c (ix2 k o) := by
  blk_ext [iblk, V, idx_ t]

/-- The body's first store, at an index. -/
theorem pay1_at (x0 : Vec Ideal S73728x1152 .f32) (x1 : Vec Ideal S73728x1 .f32) (i : Fin 73728) (l : Fin 1152) :
    k0_pay1 (F := Ideal) x0 x1 (ix2 i l) = codeOf (x0 (ix2 i l)) (x1 (ix2 i 0)) := by
  pointwise [k0_pay1, codeOf]

/-- The body's second store, at an index. -/
theorem pay2_at (x0 : Vec Ideal S73728x1152 .f32) (x1 : Vec Ideal S73728x1 .f32) (x2 : Vec Ideal S1152x16 .fp8e4m3) (i : Fin 73728) (o : Fin 16) :
    k0_pay2 (F := Ideal) x0 x1 x2 (ix2 i o) = ∑ k : Fin 1152, codeOf (x0 (ix2 i k)) (x1 (ix2 i 0)) * x2 (ix2 k o) := by
  pointwise [k0_pay2]
  simp only [pay1_at]

theorem out3_at (x0 : Vec Ideal S73728x1152 .f32) (x1 : Vec Ideal S73728x1 .f32) (x2 : Vec Ideal S1152x16 .fp8e4m3) (i : Fin 73728) (l : Fin 1152) :
    out0_3 (F := Ideal) x0 x1 x2 (ix2 i l) = codeOf (x0 (ix2 i l)) (x1 (ix2 i 0)) := by
  frame_out
  exact pay1_at x0 x1 i l

theorem out4_at (x0 : Vec Ideal S73728x1152 .f32) (x1 : Vec Ideal S73728x1 .f32) (x2 : Vec Ideal S1152x16 .fp8e4m3) (i : Fin 73728) (o : Fin 16) :
    out0_4 (F := Ideal) x0 x1 x2 (ix2 i o) = ∑ k : Fin 1152, codeOf (x0 (ix2 i k)) (x1 (ix2 i 0)) * x2 (ix2 k o) := by
  frame_out
  exact pay2_at x0 x1 x2 i o

theorem two_ix {a b : ℕ} (y : (⟨2, ![a, b]⟩ : Shape).Idx) : y = ix2 (y 0 : Fin a) (y 1 : Fin b) := by
  funext i; match i with | 0 => rfl | 1 => rfl

end Cert.ReferenceIdeal.Val
-- ==== Proof.RefArr.lean ====
/-
  What the reference's region leaves in its two output arrays.
-/
module

public import proofs.«01_k».proof.Proof.RefBlk

@[expose] public section

set_option maxRecDepth 16384

noncomputable section

open Idealize.ShloMosaic Idealize.ShloMosaic.TcCoe Idealize.ShloMosaic.Tactic
open Idealize.SL Idealize.SL.RA Idealize.SL.BI

namespace Cert.ReferenceIdeal.Val
open Cert.ReferenceIdeal Cert.ReferenceIdeal.Gen Cert.Spec

variable (m : (ℓ : Loc nD τ sig) → Buf (Elt Ideal) ℓ)

theorem codes_at (c : Dev nD) (t : Fin cfg0.N) (i : Fin 73728) (l : Fin 1152) :
    out0_3 (iblk m c 0 t) (iblk m c 1 t) (iblk m c 2 t) (ix2 i l) = refCodes (aX m c) (aSh m c) (aGn m c) (rB i) (rR i) (rN i) l := by
  refine (out3_at _ _ _ _ _).trans ?_
  exact congr (congrArg codeOf ((blk0 m c t _ _).trans (op0_at m c _ _))) ((blk1 m c t _).trans (op1_at m c _))

theorem dots_at (c : Dev nD) (t : Fin cfg0.N) (i : Fin 73728) (o : Fin 16) :
    out0_4 (iblk m c 0 t) (iblk m c 1 t) (iblk m c 2 t) (ix2 i o)
      = ∑ k : Fin 1152, refCodes (aX m c) (aSh m c) (aGn m c) (rB i) (rR i) (rN i) k * aW m c (ix2 k o) := by
  refine (out4_at _ _ _ _ _).trans ?_
  refine Finset.sum_congr rfl fun k _ => ?_
  exact congr (congrArg (HMul.hMul (α := EReal)) (congr (congrArg codeOf ((blk0 m c t _ _).trans (op0_at m c _ _))) ((blk1 m c t _).trans (op1_at m c _)))) (blk2 m c t _ _)

theorem arr3 (c : Dev nD) : (dats m 0 c).arrAt 3 cfg0.N
    = fun i => refCodes (aX m c) (aSh m c) (aGn m c) (rB (i 0 : Fin 73728)) (rR (i 0 : Fin 73728)) (rN (i 0 : Fin 73728)) (i 1 : Fin 1152) := by
  refine (dats m 0 c).arrAt_eq_of_covers 3 _ (by decide +kernel) fun t hf y => ?_
  rw [after0_3]
  have hj : ((cfg0.win 3).blk t).view.emb y = ix2 (y 0 : Fin 73728) (y 1 : Fin 1152) := by
    blk_ext [idx_ t]
  rw [hj]
  generalize hX : out0_3 (F := Ideal) (iblk m c 0 t) (iblk m c 1 t) (iblk m c 2 t) = X
  have h := codes_at m c t (y 0) (y 1)
  rw [hX] at h
  refine Eq.trans ?_ h
  exact congrArg X (two_ix (a := 73728) (b := 1152) y)

theorem arr4 (c : Dev nD) : (dats m 0 c).arrAt 4 cfg0.N
    = fun i => ∑ k : Fin 1152, refCodes (aX m c) (aSh m c) (aGn m c) (rB (i 0 : Fin 73728)) (rR (i 0 : Fin 73728)) (rN (i 0 : Fin 73728)) k
        * aW m c (ix2 k (i 1 : Fin 16)) := by
  refine (dats m 0 c).arrAt_eq_of_covers 4 _ (by decide +kernel) fun t hf y => ?_
  rw [after0_4]
  have hj : ((cfg0.win 4).blk t).view.emb y = ix2 (y 0 : Fin 73728) (y 1 : Fin 16) := by
    blk_ext [idx_ t]
  rw [hj]
  generalize hX : out0_4 (F := Ideal) (iblk m c 0 t) (iblk m c 1 t) (iblk m c 2 t) = X
  have h := dots_at m c t (y 0) (y 1)
  rw [hX] at h
  refine Eq.trans ?_ h
  exact congrArg X (two_ix (a := 73728) (b := 16) y)

end Cert.ReferenceIdeal.Val
-- ==== Proof.RefTail.lean ====
/-
  The reference's operations after its region, at an index, over what they are given.
-/
module

public import proofs.«01_k».proof.Proof.Gen.ReferenceIdeal.Frame
public import proofs.«01_k».proof.Proof.Layer
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.ReferenceIdeal.Val
open Cert.ReferenceIdeal Cert.ReferenceIdeal.Gen Cert.Spec

/-- The row of the flattened operands that holds token `n` of branch `r` of sample `b`. -/
def rowOf (b : Fin 3) (r : Fin 2) (n : Fin 12288) : Fin 73728 := ⟨b.val * 24576 + r.val * 12288 + n.val, by omega⟩

/-- One output of one branch for one token, from the dots `A` and the scales `s`. -/
def refY (A : S73728x16.Idx → EReal) (s : S3x2x12288.Idx → EReal) (ws bias : A16.Idx → EReal) (b : Fin 3) (r : Fin 2) (n : Fin 12288) (o : Fin 16) : EReal :=
  A (ix2 (rowOf b r n) o) * s (ix3 b r n) * ws (ix1 o) + bias (ix1 o)

/-- The mixture of the two branches. -/
def refMix (A : S73728x16.Idx → EReal) (s : S3x2x12288.Idx → EReal) (ws bias : A16.Idx → EReal) (g : A3.Idx → EReal) (b : Fin 3) (n : Fin 12288) (o : Fin 16) : EReal :=
  mixOf (g (ix1 b)) (refY A s ws bias b 0 n o) (refY A s ws bias b 1 n o)

/-- The mixtures as an image. -/
def refImg (A : S73728x16.Idx → EReal) (s : S3x2x12288.Idx → EReal) (ws bias : A16.Idx → EReal) (g : A3.Idx → EReal)
    (b : Fin 3) (Y : Fin 192) (X : Fin 256) (c : Fin 4) : EReal :=
  refMix A s ws bias g b ⟨128 * (Y.val / 2) + X.val / 2, by omega⟩ ⟨8 * (Y.val % 2) + 4 * (X.val % 2) + c.val, by omega⟩

/-- The operations after the region. -/
abbrev opsPost : List (HloOp τ sig (Elt Ideal)) := List.flatten [hostOps1]

theorem tail78 (W : Valuation τ sig (Elt Ideal)) (b : Fin 3) (r : Fin 2) (n : Fin 12288) (l : Fin 1152) :
    StableHlo.after opsPost W (Proc.devRef .tc main_v78) (ix4 b r n l) = W (Proc.devRef .tc main_v49_0) (ix2 (rowOf b r n) l) := by
  simp only [hostOps1, List.flatten_cons, List.flatten_nil, List.append_nil, List.drop_succ_cons, List.drop_zero, List.take_succ_cons, List.take_zero]
  after_reads_at
  rfl

theorem tail44 (W : Valuation τ sig (Elt Ideal)) (i : S3x2x12288.Idx) :
    StableHlo.after opsPost W (Proc.devRef .tc main_v44) i = W (Proc.devRef .tc main_v44) i := by
  simp only [hostOps1, List.flatten_cons, List.flatten_nil, List.append_nil, List.drop_succ_cons, List.drop_zero, List.take_succ_cons, List.take_zero]
  after_results

theorem y_of (W : Valuation τ sig (Elt Ideal)) (b : Fin 3) (r : Fin 2) (n : Fin 12288) (o : Fin 16) :
    StableHlo.after (opsPost.take 10) W (Proc.devRef .tc main_v59) (ix4 b r n o)
      = refY (W (Proc.devRef .tc main_v49_1)) (W (Proc.devRef .tc main_v44)) (W (Proc.devRef .tc main_arg4)) (W (Proc.devRef .tc main_arg5)) b r n o := by
  simp only [hostOps1, List.flatten_cons, List.flatten_nil, List.append_nil, List.drop_succ_cons, List.drop_zero, List.take_succ_cons, List.take_zero]
  after_reads_at
  rfl

theorem mix_of (W : Valuation τ sig (Elt Ideal)) (b : Fin 3) (n : Fin 12288) (o : Fin 16) (g y0 y1 : EReal)
    (hg : W (Proc.devRef .tc main_arg6) (ix1 b) = g) (h0 : W (Proc.devRef .tc main_v59) (ix4 b 0 n o) = y0) (h1 : W (Proc.devRef .tc main_v59) (ix4 b 1 n o) = y1) :
    StableHlo.after ((opsPost.drop 10).take 9) W (Proc.devRef .tc main_v68) (ix3 b n o) = mixOf g y0 y1 := by
  subst hg h0 h1
  simp only [hostOps1, List.flatten_cons, List.flatten_nil, List.append_nil, List.drop_succ_cons, List.drop_zero, List.take_succ_cons, List.take_zero]
  after_reads_at
  rfl

theorem img_of (W : Valuation τ sig (Elt Ideal)) (b : Fin 3) (Y : Fin 192) (X : Fin 256) (o : Fin 4) :
    StableHlo.after ((opsPost.drop 19).take 3) W (Proc.devRef .tc main_v71) (ix4 b Y X o)
      = W (Proc.devRef .tc main_v68) (ix3 b (⟨128 * (Y.val / 2) + X.val / 2, by omega⟩ : Fin 12288) (⟨8 * (Y.val % 2) + 4 * (X.val % 2) + o.val, by omega⟩ : Fin 16)) := by
  simp only [hostOps1, List.flatten_cons, List.flatten_nil, List.append_nil, List.drop_succ_cons, List.drop_zero, List.take_succ_cons, List.take_zero]
  after_reads_at
  exact congrArg (W (Proc.devRef .tc main_v68)) (congr (congrArg (ix3 b)
    (Fin.ext (by show Y.val / 2 * 128 + X.val / 2 = 128 * (Y.val / 2) + X.val / 2; omega)))
    (Fin.ext (by show Y.val % 2 * 8 + X.val % 2 * 4 + o.val = 8 * (Y.val % 2) + 4 * (X.val % 2) + o.val; omega)))

theorem next_of (W : Valuation τ sig (Elt Ideal)) (b : Fin 3) (Y : Fin 192) (X : Fin 256) (o : Fin 4) (lat t tn v : EReal)
    (hl : W (Proc.devRef .tc main_arg9) (ix4 b Y X o) = lat) (ht : W (Proc.devRef .tc main_arg7) (ix1 b) = t) (hn : W (Proc.devRef .tc main_arg8) (ix1 b) = tn)
    (hv : W (Proc.devRef .tc main_v71) (ix4 b Y X o) = v) :
    StableHlo.after (opsPost.drop 22) W (Proc.devRef .tc main_v76) (ix4 b Y X o) = lat + (tn - t) * v := by
  subst hl ht hn hv
  simp only [hostOps1, List.flatten_cons, List.flatten_nil, List.append_nil, List.drop_succ_cons, List.drop_zero, List.take_succ_cons, List.take_zero]
  after_reads_at

theorem cast_of (W : Valuation τ sig (Elt Ideal)) (b : Fin 3) (Y : Fin 192) (X : Fin 256) (o : Fin 4) :
    StableHlo.after (opsPost.drop 22) W (Proc.devRef .tc main_v77) (ix4 b Y X o) = W (Proc.devRef .tc main_v71) (ix4 b Y X o) := by
  simp only [hostOps1, List.flatten_cons, List.flatten_nil, List.append_nil, List.drop_succ_cons, List.drop_zero, List.take_succ_cons, List.take_zero]
  after_reads_at

theorem keepA_arg6 (W : Valuation τ sig (Elt Ideal)) :
    StableHlo.after (opsPost.take 10) W (Proc.devRef .tc main_arg6) = W (Proc.devRef .tc main_arg6) := by
  simp only [hostOps1, List.flatten_cons, List.flatten_nil, List.append_nil, List.drop_succ_cons, List.drop_zero, List.take_succ_cons, List.take_zero]
  after_results

theorem keepA_arg7 (W : Valuation τ sig (Elt Ideal)) :
    StableHlo.after (opsPost.take 10) W (Proc.devRef .tc main_arg7) = W (Proc.devRef .tc main_arg7) := by
  simp only [hostOps1, List.flatten_cons, List.flatten_nil, List.append_nil, List.drop_succ_cons, List.drop_zero, List.take_succ_cons, List.take_zero]
  after_results

theorem keepB_arg7 (W : Valuation τ sig (Elt Ideal)) :
    StableHlo.after ((opsPost.drop 10).take 9) W (Proc.devRef .tc main_arg7) = W (Proc.devRef .tc main_arg7) := by
  simp only [hostOps1, List.flatten_cons, List.flatten_nil, List.append_nil, List.drop_succ_cons, List.drop_zero, List.take_succ_cons, List.take_zero]
  after_results

theorem keepC_arg7 (W : Valuation τ sig (Elt Ideal)) :
    StableHlo.after ((opsPost.drop 19).take 3) W (Proc.devRef .tc main_arg7) = W (Proc.devRef .tc main_arg7) := by
  simp only [hostOps1, List.flatten_cons, List.flatten_nil, List.append_nil, List.drop_succ_cons, List.drop_zero, List.take_succ_cons, List.take_zero]
  after_results

theorem keepA_arg8 (W : Valuation τ sig (Elt Ideal)) :
    StableHlo.after (opsPost.take 10) W (Proc.devRef .tc main_arg8) = W (Proc.devRef .tc main_arg8) := by
  simp only [hostOps1, List.flatten_cons, List.flatten_nil, List.append_nil, List.drop_succ_cons, List.drop_zero, List.take_succ_cons, List.take_zero]
  after_results

theorem keepB_arg8 (W : Valuation τ sig (Elt Ideal)) :
    StableHlo.after ((opsPost.drop 10).take 9) W (Proc.devRef .tc main_arg8) = W (Proc.devRef .tc main_arg8) := by
  simp only [hostOps1, List.flatten_cons, List.flatten_nil, List.append_nil, List.drop_succ_cons, List.drop_zero, List.take_succ_cons, List.take_zero]
  after_results

theorem keepC_arg8 (W : Valuation τ sig (Elt Ideal)) :
    StableHlo.after ((opsPost.drop 19).take 3) W (Proc.devRef .tc main_arg8) = W (Proc.devRef .tc main_arg8) := by
  simp only [hostOps1, List.flatten_cons, List.flatten_nil, List.append_nil, List.drop_succ_cons, List.drop_zero, List.take_succ_cons, List.take_zero]
  after_results

theorem keepA_arg9 (W : Valuation τ sig (Elt Ideal)) :
    StableHlo.after (opsPost.take 10) W (Proc.devRef .tc main_arg9) = W (Proc.devRef .tc main_arg9) := by
  simp only [hostOps1, List.flatten_cons, List.flatten_nil, List.append_nil, List.drop_succ_cons, List.drop_zero, List.take_succ_cons, List.take_zero]
  after_results

theorem keepB_arg9 (W : Valuation τ sig (Elt Ideal)) :
    StableHlo.after ((opsPost.drop 10).take 9) W (Proc.devRef .tc main_arg9) = W (Proc.devRef .tc main_arg9) := by
  simp only [hostOps1, List.flatten_cons, List.flatten_nil, List.append_nil, List.drop_succ_cons, List.drop_zero, List.take_succ_cons, List.take_zero]
  after_results

theorem keepC_arg9 (W : Valuation τ sig (Elt Ideal)) :
    StableHlo.after ((opsPost.drop 19).take 3) W (Proc.devRef .tc main_arg9) = W (Proc.devRef .tc main_arg9) := by
  simp only [hostOps1, List.flatten_cons, List.flatten_nil, List.append_nil, List.drop_succ_cons, List.drop_zero, List.take_succ_cons, List.take_zero]
  after_results

end Cert.ReferenceIdeal.Val
-- ==== Proof.RefFin.lean ====
/-
  The reference's four results, at an index: the functions of Layer.lean where every token's quotient is below two to the 126.
-/
module

public import proofs.«01_k».proof.Proof.RefArr
public import proofs.«01_k».proof.Proof.RefTail

@[expose] public section

set_option maxRecDepth 16384

noncomputable section

open Idealize.ShloMosaic Idealize.ShloMosaic.TcCoe Idealize.ShloMosaic.Tactic Idealize.SL.Sem

namespace Cert.ReferenceIdeal.Val
open Cert.ReferenceIdeal Cert.ReferenceIdeal.Gen Cert.Spec

variable (m : (ℓ : Loc nD τ sig) → Buf (Elt Ideal) ℓ)

abbrev aWs (c : Dev nD) : A16.Idx → EReal := m ((c.tc : Thread nD τ).loc main_arg4)
abbrev aB (c : Dev nD) : A16.Idx → EReal := m ((c.tc : Thread nD τ).loc main_arg5)
abbrev aG (c : Dev nD) : A3.Idx → EReal := m ((c.tc : Thread nD τ).loc main_arg6)
abbrev aT (c : Dev nD) : A3.Idx → EReal := m ((c.tc : Thread nD τ).loc main_arg7)
abbrev aTn (c : Dev nD) : A3.Idx → EReal := m ((c.tc : Thread nD τ).loc main_arg8)
abbrev aLat (c : Dev nD) : A3x192x256x4.Idx → EReal := m ((c.tc : Thread nD τ).loc main_arg9)

/-! ## The later operations, in their stages -/

abbrev st1 (W : Valuation τ sig (Elt Ideal)) := StableHlo.after (opsPost.take 10) W
abbrev st2 (W : Valuation τ sig (Elt Ideal)) := StableHlo.after ((opsPost.drop 10).take 9) (st1 W)
abbrev st3 (W : Valuation τ sig (Elt Ideal)) := StableHlo.after ((opsPost.drop 19).take 3) (st2 W)

theorem drop_19 : (opsPost.drop 10).drop 9 = opsPost.drop 19 := by rw [List.drop_drop]
theorem drop_22 : (opsPost.drop 19).drop 3 = opsPost.drop 22 := by rw [List.drop_drop]

theorem staged (W : Valuation τ sig (Elt Ideal)) : StableHlo.after opsPost W = StableHlo.after (opsPost.drop 22) (st3 W) := by
  rw [after_split 10 opsPost, after_split 9 (opsPost.drop 10), drop_19, after_split 3 (opsPost.drop 19), drop_22]

theorem st3_71 (W : Valuation τ sig (Elt Ideal)) (b : Fin 3) (Y : Fin 192) (X : Fin 256) (o : Fin 4) :
    st3 W (Proc.devRef .tc main_v71) (ix4 b Y X o)
      = refImg (W (Proc.devRef .tc main_v49_1)) (W (Proc.devRef .tc main_v44)) (W (Proc.devRef .tc main_arg4)) (W (Proc.devRef .tc main_arg5))
          (W (Proc.devRef .tc main_arg6)) b Y X o :=
  (img_of (st2 W) b Y X o).trans
    (mix_of (st1 W) b _ _ _ _ _ (congrFun (keepA_arg6 W) (ix1 b)) (y_of W b 0 _ _) (y_of W b 1 _ _))

theorem post77 (W : Valuation τ sig (Elt Ideal)) (b : Fin 3) (Y : Fin 192) (X : Fin 256) (o : Fin 4) :
    StableHlo.after opsPost W (Proc.devRef .tc main_v77) (ix4 b Y X o)
      = refImg (W (Proc.devRef .tc main_v49_1)) (W (Proc.devRef .tc main_v44)) (W (Proc.devRef .tc main_arg4)) (W (Proc.devRef .tc main_arg5))
          (W (Proc.devRef .tc main_arg6)) b Y X o := by
  rw [staged]
  exact (cast_of (st3 W) b Y X o).trans (st3_71 W b Y X o)

theorem post76 (W : Valuation τ sig (Elt Ideal)) (b : Fin 3) (Y : Fin 192) (X : Fin 256) (o : Fin 4) (lat t tn : EReal)
    (hl : W (Proc.devRef .tc main_arg9) (ix4 b Y X o) = lat) (ht : W (Proc.devRef .tc main_arg7) (ix1 b) = t) (hn : W (Proc.devRef .tc main_arg8) (ix1 b) = tn) :
    StableHlo.after opsPost W (Proc.devRef .tc main_v76) (ix4 b Y X o)
      = lat + (tn - t) * refImg (W (Proc.devRef .tc main_v49_1)) (W (Proc.devRef .tc main_v44)) (W (Proc.devRef .tc main_arg4)) (W (Proc.devRef .tc main_arg5))
          (W (Proc.devRef .tc main_arg6)) b Y X o := by
  rw [staged]
  exact next_of (st3 W) b Y X o lat t tn _
    ((congrFun ((keepC_arg9 (st2 W)).trans ((keepB_arg9 (st1 W)).trans (keepA_arg9 W))) (ix4 b Y X o)).trans hl)
    ((congrFun ((keepC_arg7 (st2 W)).trans ((keepB_arg7 (st1 W)).trans (keepA_arg7 W))) (ix1 b)).trans ht)
    ((congrFun ((keepC_arg8 (st2 W)).trans ((keepB_arg8 (st1 W)).trans (keepA_arg8 W))) (ix1 b)).trans hn)
    (st3_71 W b Y X o)

/-! ## At the region's arrays -/

/-- What the buffers hold after the region. -/
abbrev mid (c : Dev nD) : Valuation τ sig (Elt Ideal) :=
  Pipeline.withArrays (τ := τ) cfg0.spec c (V0 m c) (fun w => (dats m 0 c).arrAt w cfg0.N)

/-- What the program's other buffers hold at the end. -/
abbrev fin (c : Dev nD) (b : Ref sig .tc) : Buf (Elt Ideal) ((c.tc : Thread nD τ).loc b) :=
  Pipeline.afterTail₀ cfgs (dats m) 0 (V0 m) [hostOps1] c b

theorem mid3 (c : Dev nD) : mid m c (Proc.devRef .tc main_v49_0) = (dats m 0 c).arrAt 3 cfg0.N :=
  Pipeline.withArrays_arr cfg0.spec launch0.win.arr_inj c (V0 m c) _ 3
theorem mid4 (c : Dev nD) : mid m c (Proc.devRef .tc main_v49_1) = (dats m 0 c).arrAt 4 cfg0.N :=
  Pipeline.withArrays_arr cfg0.spec launch0.win.arr_inj c (V0 m c) _ 4
theorem mid44 (c : Dev nD) : mid m c (Proc.devRef .tc main_v44) = V m c main_v44 :=
  Pipeline.withArrays_of_ne _ c (V0 m c) _ main_v44 (by exact (by decide : ∀ w, Pipeline.arrRef spec0 w ≠ main_v44))
theorem mid_arg4 (c : Dev nD) : mid m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem mid_arg5 (c : Dev nD) : mid m c (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)
theorem mid_arg6 (c : Dev nD) : mid m c (Proc.devRef .tc main_arg6) = m ((c.tc : Thread nD τ).loc main_arg6) :=
  (Pipeline.withArrays_of_ne _ c (V0 m c) _ main_arg6 (by exact (by decide : ∀ w, Pipeline.arrRef spec0 w ≠ main_arg6))).trans (V_main_arg6 m c)
theorem mid_arg7 (c : Dev nD) : mid m c (Proc.devRef .tc main_arg7) = m ((c.tc : Thread nD τ).loc main_arg7) :=
  (Pipeline.withArrays_of_ne _ c (V0 m c) _ main_arg7 (by exact (by decide : ∀ w, Pipeline.arrRef spec0 w ≠ main_arg7))).trans (V_main_arg7 m c)
theorem mid_arg8 (c : Dev nD) : mid m c (Proc.devRef .tc main_arg8) = m ((c.tc : Thread nD τ).loc main_arg8) :=
  (Pipeline.withArrays_of_ne _ c (V0 m c) _ main_arg8 (by exact (by decide : ∀ w, Pipeline.arrRef spec0 w ≠ main_arg8))).trans (V_main_arg8 m c)
theorem mid_arg9 (c : Dev nD) : mid m c (Proc.devRef .tc main_arg9) = m ((c.tc : Thread nD τ).loc main_arg9) :=
  (Pipeline.withArrays_of_ne _ c (V0 m c) _ main_arg9 (by exact (by decide : ∀ w, Pipeline.arrRef spec0 w ≠ main_arg9))).trans (V_main_arg9 m c)

/-! ## The functions of Layer.lean -/

theorem rB_rowOf (b : Fin 3) (r : Fin 2) (n : Fin 12288) : rB (rowOf b r n) = b := Fin.ext (by simp only [rB, rowOf]; omega)
theorem rR_rowOf (b : Fin 3) (r : Fin 2) (n : Fin 12288) : rR (rowOf b r n) = r := Fin.ext (by simp only [rR, rowOf]; omega)
theorem rN_rowOf (b : Fin 3) (r : Fin 2) (n : Fin 12288) : rN (rowOf b r n) = n := Fin.ext (by simp only [rN, rowOf]; omega)

/-- Every token's quotient is below two to the 126. -/
def Small (x : A3x2x12288x1152.Idx → EReal) (sh gn : A3x2x1152.Idx → EReal) : Prop :=
  ∀ (b : Fin 3) (r : Fin 2) (n : Fin 12288), rowQ (layH x sh gn b r n) < F 253

theorem refCodes_eq (x : A3x2x12288x1152.Idx → EReal) (sh gn : A3x2x1152.Idx → EReal) (h : Small x sh gn) (b : Fin 3) (r : Fin 2) (n : Fin 12288) (l : Fin 1152) :
    refCodes x sh gn b r n l = layCodes x sh gn b r n l := by
  unfold refCodes layCodes
  rw [invOf_eq _ (h b r n)]

theorem codes_fin (c : Dev nD) (h : Small (aX m c) (aSh m c) (aGn m c)) (b : Fin 3) (r : Fin 2) (n : Fin 12288) (l : Fin 1152) :
    fin m c main_v78 (ix4 b r n l) = layCodes (aX m c) (aSh m c) (aGn m c) b r n l := by
  refine (tail78 (mid m c) b r n l).trans ((congrFun ((mid3 m c).trans (arr3 m c)) (ix2 (rowOf b r n) l)).trans ?_)
  refine Eq.trans ?_ (refCodes_eq _ _ _ h b r n l)
  exact congrFun (congr (congr (congrArg (refCodes (aX m c) (aSh m c) (aGn m c)) (rB_rowOf b r n)) (rR_rowOf b r n)) (rN_rowOf b r n)) l

theorem scale_fin (c : Dev nD) (h : Small (aX m c) (aSh m c) (aGn m c)) (b : Fin 3) (r : Fin 2) (n : Fin 12288) :
    fin m c main_v44 (ix3 b r n) = layScale (aX m c) (aSh m c) (aGn m c) b r n :=
  (tail44 (mid m c) (ix3 b r n)).trans ((congrFun (mid44 m c) (ix3 b r n)).trans ((s_at m c b r n).trans (scaleOf_eq _ (h b r n)).symm))

theorem y_lay (x : A3x2x12288x1152.Idx → EReal) (sh gn : A3x2x1152.Idx → EReal) (w : A1152x16.Idx → EReal) (ws bias : A16.Idx → EReal)
    (h : Small x sh gn) (A : S73728x16.Idx → EReal) (s : S3x2x12288.Idx → EReal)
    (hA : ∀ (i : Fin 73728) (o : Fin 16), A (ix2 i o) = ∑ k : Fin 1152, refCodes x sh gn (rB i) (rR i) (rN i) k * w (ix2 k o))
    (hs : ∀ (b : Fin 3) (r : Fin 2) (n : Fin 12288), s (ix3 b r n) = refScale (rowQ (layH x sh gn b r n)))
    (b : Fin 3) (r : Fin 2) (n : Fin 12288) (o : Fin 16) :
    refY A s ws bias b r n o = yOf (fun k => w (ix2 k o)) (layCodes x sh gn b r n) (layScale x sh gn b r n) (ws (ix1 o)) (bias (ix1 o)) := by
  unfold refY yOf layScale
  rw [hA, hs, rB_rowOf, rR_rowOf, rN_rowOf, scaleOf_eq _ (h b r n)]
  have e : (∑ k : Fin 1152, refCodes x sh gn b r n k * w (ix2 k o)) = ∑ k : Fin 1152, w (ix2 k o) * layCodes x sh gn b r n k :=
    Finset.sum_congr rfl fun k _ => by rw [refCodes_eq x sh gn h, mul_comm]
  rw [e]

theorem img_lay (x : A3x2x12288x1152.Idx → EReal) (sh gn : A3x2x1152.Idx → EReal) (w : A1152x16.Idx → EReal) (ws bias : A16.Idx → EReal) (g : A3.Idx → EReal)
    (h : Small x sh gn) (A : S73728x16.Idx → EReal) (s : S3x2x12288.Idx → EReal)
    (hA : ∀ (i : Fin 73728) (o : Fin 16), A (ix2 i o) = ∑ k : Fin 1152, refCodes x sh gn (rB i) (rR i) (rN i) k * w (ix2 k o))
    (hs : ∀ (b : Fin 3) (r : Fin 2) (n : Fin 12288), s (ix3 b r n) = refScale (rowQ (layH x sh gn b r n)))
    (b : Fin 3) (Y : Fin 192) (X : Fin 256) (o : Fin 4) :
    refImg A s ws bias g b Y X o = layImg x sh gn w ws bias g b Y X o := by
  unfold refImg refMix layImg layMix
  rw [y_lay x sh gn w ws bias h A s hA hs, y_lay x sh gn w ws bias h A s hA hs]

theorem img_mid (c : Dev nD) (h : Small (aX m c) (aSh m c) (aGn m c)) (b : Fin 3) (Y : Fin 192) (X : Fin 256) (o : Fin 4) :
    refImg (mid m c (Proc.devRef .tc main_v49_1)) (mid m c (Proc.devRef .tc main_v44)) (mid m c (Proc.devRef .tc main_arg4)) (mid m c (Proc.devRef .tc main_arg5))
        (mid m c (Proc.devRef .tc main_arg6)) b Y X o
      = layImg (aX m c) (aSh m c) (aGn m c) (aW m c) (aWs m c) (aB m c) (aG m c) b Y X o := by
  have e1 : mid m c (Proc.devRef .tc main_arg4) = aWs m c := mid_arg4 m c
  have e2 : mid m c (Proc.devRef .tc main_arg5) = aB m c := mid_arg5 m c
  have e3 : mid m c (Proc.devRef .tc main_arg6) = aG m c := mid_arg6 m c
  refine (congr (congr (congrArg (refImg (mid m c (Proc.devRef .tc main_v49_1)) (mid m c (Proc.devRef .tc main_v44))) e1) e2) e3 |> fun e => congrFun (congrFun (congrFun (congrFun e b) Y) X) o).trans ?_
  exact img_lay _ _ _ _ _ _ _ h _ _ (fun i o => congrFun ((mid4 m c).trans (arr4 m c)) (ix2 i o))
    (fun b r n => (congrFun (mid44 m c) (ix3 b r n)).trans (s_at m c b r n)) b Y X o

theorem img_fin (c : Dev nD) (h : Small (aX m c) (aSh m c) (aGn m c)) (b : Fin 3) (Y : Fin 192) (X : Fin 256) (o : Fin 4) :
    fin m c main_v77 (ix4 b Y X o) = layImg (aX m c) (aSh m c) (aGn m c) (aW m c) (aWs m c) (aB m c) (aG m c) b Y X o :=
  (post77 (mid m c) b Y X o).trans (img_mid m c h b Y X o)

theorem next_fin (c : Dev nD) (h : Small (aX m c) (aSh m c) (aGn m c)) (b : Fin 3) (Y : Fin 192) (X : Fin 256) (o : Fin 4) :
    fin m c main_v76 (ix4 b Y X o)
      = layNext (aX m c) (aSh m c) (aGn m c) (aW m c) (aWs m c) (aB m c) (aG m c) (aT m c) (aTn m c) (aLat m c) b Y X o := by
  refine (post76 (mid m c) b Y X o _ _ _ (congrFun (mid_arg9 m c) (ix4 b Y X o)) (congrFun (mid_arg7 m c) (ix1 b)) (congrFun (mid_arg8 m c) (ix1 b))).trans ?_
  exact congrArg (fun v : EReal => aLat m c (ix4 b Y X o) + (aTn m c (ix1 b) - aT m c (ix1 b)) * v) (img_mid m c h b Y X o)

end Cert.ReferenceIdeal.Val
-- ==== Proof.PreNo.lean ====
/-
  What the precondition says of a token: its quotient is below two to the 126.
-/
module

public import proofs.«01_k».proof.Proof.RefPre
public import proofs.«01_k».proof.Pre_no_overflow

@[expose] public section

set_option maxRecDepth 16384

noncomputable section

open Idealize.ShloMosaic Idealize.ShloMosaic.TcCoe Idealize.SL.Sem

namespace Cert.PreNo
open Cert.ReferenceIdeal Cert.ReferenceIdeal.Gen Cert.ReferenceIdeal.Val Cert.Spec

theorem facts : Cert.Pre_no_overflow.Facts where
  bitsLt_bf16_f32 := bitsLt_bf16_f32
  reducesTo_S3x2x12288x1152_S3x2x12288_d3 := reducesTo_S3x2x12288x1152_S3x2x12288_d3
  h_S_ := h_S_
  bcast_S3x2x12288_S3x2x12288x1_0_1_2 := bcast_S3x2x12288_S3x2x12288x1_0_1_2
  bcast_S_S3x2x12288x1 := bcast_S_S3x2x12288x1
  bcast_S3x2x12288x1_S3x2x12288x1152_0_1_2_3 := bcast_S3x2x12288x1_S3x2x12288x1152_0_1_2_3
  bcast_S3x2x1152_S3x2x1x1152_0_1_3 := bcast_S3x2x1152_S3x2x1x1152_0_1_3
  bcast_S_S3x2x1x1152 := bcast_S_S3x2x1x1152
  bcast_S3x2x1x1152_S3x2x12288x1152_0_1_2_3 := bcast_S3x2x1x1152_S3x2x12288x1152_0_1_2_3
  bcast_S_S3x2x12288 := bcast_S_S3x2x12288

theorem olt_at (Q : FVec Ideal S3x2x12288 .f32) (b : Fin 3) (r : Fin 2) (n : Fin 12288)
    (h : cmpf .olt Q (broadcastInDim S3x2x12288 ![] bcast_S_S3x2x12288 (constant (F := Ideal) S_ FTy.f32 0x7E800000#32)) (ix3 b r n) = 1#1) :
    Q (ix3 b r n) < F 253 := by
  have e : F 253 = Ideal.ofBits FTy.f32 0x7E800000#32 := by unfold F; rw [show W 253 = 0x7E800000#32 by decide]
  rw [e]
  have h' : (if (Q (ix3 b r n) : EReal) < Ideal.ofBits FTy.f32 0x7E800000#32 then 1#1 else 0#1) = 1#1 := by
    refine Eq.trans ?_ h
    pointwise
    by_cases hq : (Q (ix3 b r n) : EReal) < Ideal.ofBits FTy.f32 0x7E800000#32
    · rw [if_pos hq, decide_eq_true hq]; rfl
    · rw [if_neg hq, decide_eq_false hq]; rfl
  by_contra hc
  rw [if_neg hc] at h'
  exact absurd h' (by decide)

/-- The modulated layer norm, as the precondition writes it. -/
theorem pre_h [Cert.Pre_no_overflow.Facts] (x : FVec Ideal S3x2x12288x1152 .bf16) (sh gn : FVec Ideal S3x2x1152 .f32) (w : FVec Ideal S1152x16 .fp8e4m3) (ws bias : FVec Ideal S16 .f32)
    (g t tn : FVec Ideal S3 .f32) (lat : FVec Ideal S3x192x256x4 .f32)
    (h : Cert.Pre_no_overflow.fn (F := Ideal) x sh gn w ws bias g t tn lat = fun _ => 1#1) (b : Fin 3) (r : Fin 2) (n : Fin 12288) :
    rowQ (layH x sh gn b r n) < F 253 := by
  unfold Cert.Pre_no_overflow.fn Cert.Pre_no_overflow.fn_part1 at h
  dsimp only at h
  have h2 := olt_at _ b r n (congrFun h (ix3 b r n))
  rw [qVec_at] at h2
  refine lt_of_eq_of_lt (congrArg rowQ (funext fun l => ?_)) h2
  symm
  pointwise
  rfl

end Cert.PreNo
-- ==== Proof.lean ====
/-
  The proof of the claims: the three frames, and that where no token's scale overflows the kernel and the reference leave equal
  results over the extended reals, each the functions of Proof/Layer.lean.
-/
module

public import proofs.«01_k».proof.Defs
public import proofs.«01_k».proof.Proof.PFrame
public import proofs.«01_k».proof.Proof.KTail
public import proofs.«01_k».proof.Proof.RefFin
public import proofs.«01_k».proof.Proof.PreNo

@[expose] public section

set_option maxRecDepth 16384

noncomputable section

namespace Cert.Proof

open Idealize.ShloMosaic Idealize.ShloMosaic.TcCoe Idealize.SL.Sem
open Cert.Spec

theorem at4 {n0 n1 n2 n3 : ℕ} {T : Type} (f g : (⟨4, ![n0, n1, n2, n3]⟩ : Shape).Idx → T)
    (h : ∀ (a : Fin n0) (b : Fin n1) (c : Fin n2) (d : Fin n3), f (ix4 a b c d) = g (ix4 a b c d)) : f = g := by
  funext i
  have e : i = ix4 (i 0 : Fin n0) (i 1 : Fin n1) (i 2 : Fin n2) (i 3 : Fin n3) := by
    funext k; match k with | 0 => rfl | 1 => rfl | 2 => rfl | 3 => rfl
  rw [e]
  exact h _ _ _ _

theorem at3 {n0 n1 n2 : ℕ} {T : Type} (f g : (⟨3, ![n0, n1, n2]⟩ : Shape).Idx → T)
    (h : ∀ (a : Fin n0) (b : Fin n1) (c : Fin n2), f (ix3 a b c) = g (ix3 a b c)) : f = g := by
  funext i
  have e : i = ix3 (i 0 : Fin n0) (i 1 : Fin n1) (i 2 : Fin n2) := by
    funext k; match k with | 0 => rfl | 1 => rfl | 2 => rfl
  rw [e]
  exact h _ _ _

/-- From arguments that agree, both run and their results are equal. -/
theorem algebraic : Cert.algebraic_KernelIdeal_ReferenceIdeal_pre_no_overflow (hKernelIdeal := Cert.KernelIdeal.Gen.facts)
    (hReferenceIdeal := Cert.ReferenceIdeal.Gen.facts) (hPre_no_overflow := Cert.PreNo.facts) := by
  intro m g m' g' hpre hargs
  refine ⟨fun c => Cert.KernelIdeal.Rows.fin m c Cert.KernelIdeal.main_v9, fun c => Cert.KernelIdeal.Rows.fin m c Cert.KernelIdeal.main_v10,
    fun c => (Cert.KernelIdeal.Rows.dats m 0 c).arrAt 10 Cert.KernelIdeal.cfg0.N, fun c => Cert.KernelIdeal.Rows.fin m c Cert.KernelIdeal.main_v11, ?_, ?_⟩
  · refine (θ_run (Cert.KernelIdeal.defs (F := Ideal)) _ _).mono (fun r h c => ?_) (θ_run_and (Cert.KernelIdeal.Rows.run_main m g) (Cert.KernelIdeal.Rows.unchanged m g))
    obtain ⟨h, hu⟩ := h
    exact ⟨(h c).2 _ (Pipeline.mem_restRefs_of Cert.KernelIdeal.main_v9 (by decide) (by decide)),
      (h c).2 _ (Pipeline.mem_restRefs_of Cert.KernelIdeal.main_v10 (by decide) (by decide)), (h c).1 10,
      (h c).2 _ (Pipeline.mem_restRefs_of Cert.KernelIdeal.main_v11 (by decide) (by decide)), hu c⟩
  · refine (θ_run (Cert.ReferenceIdeal.defs (F := Ideal)) _ _).mono (fun r h c => ?_) (θ_run_and (Cert.ReferenceIdeal.Gen.run_main m' g') (Cert.ReferenceIdeal.Gen.unchanged m' g'))
    obtain ⟨h, hu⟩ := h
    obtain ⟨e0, e1, e2, e3, e4, e5, e6, e7, e8, e9⟩ := hargs c
    have small : Cert.ReferenceIdeal.Val.Small (Cert.KernelIdeal.Rows.aX m c) (Cert.KernelIdeal.Rows.aSh m c) (Cert.KernelIdeal.Rows.aGn m c) :=
      fun b r n => @Cert.PreNo.pre_h Cert.PreNo.facts _ _ _ _ _ _ _ _ _ _ (hpre c) b r n
    have e0 : Cert.ReferenceIdeal.Val.aX m' c = Cert.KernelIdeal.Rows.aX m c := e0
    have e1 : Cert.ReferenceIdeal.Val.aSh m' c = Cert.KernelIdeal.Rows.aSh m c := e1
    have e2 : Cert.ReferenceIdeal.Val.aGn m' c = Cert.KernelIdeal.Rows.aGn m c := e2
    have e3 : Cert.ReferenceIdeal.Val.aW m' c = Cert.KernelIdeal.Rows.aW m c := e3
    have e4 : Cert.ReferenceIdeal.Val.aWs m' c = Cert.KernelIdeal.Rows.aWs m c := e4
    have e5 : Cert.ReferenceIdeal.Val.aB m' c = Cert.KernelIdeal.Rows.aB m c := e5
    have e6 : Cert.ReferenceIdeal.Val.aG m' c = Cert.KernelIdeal.Rows.aG m c := e6
    have e7 : Cert.ReferenceIdeal.Val.aT m' c = Cert.KernelIdeal.Rows.aT m c := e7
    have e8 : Cert.ReferenceIdeal.Val.aTn m' c = Cert.KernelIdeal.Rows.aTn m c := e8
    have e9 : Cert.ReferenceIdeal.Val.aLat m' c = Cert.KernelIdeal.Rows.aLat m c := e9
    have small' : Cert.ReferenceIdeal.Val.Small (Cert.ReferenceIdeal.Val.aX m' c) (Cert.ReferenceIdeal.Val.aSh m' c) (Cert.ReferenceIdeal.Val.aGn m' c) := by
      rw [e0, e1, e2]; exact small
    have r0 : Cert.ReferenceIdeal.Val.fin m' c Cert.ReferenceIdeal.main_v76 = Cert.KernelIdeal.Rows.fin m c Cert.KernelIdeal.main_v9 := by
      refine at4 _ _ fun b Y X o => ?_
      refine (Cert.ReferenceIdeal.Val.next_fin m' c small' b Y X o).trans (Eq.trans ?_ (Cert.KernelIdeal.Rows.fin9 m c b Y X o).symm)
      rw [e0, e1, e2, e3, e4, e5, e6, e7, e8, e9]
    have r1 : Cert.ReferenceIdeal.Val.fin m' c Cert.ReferenceIdeal.main_v77 = Cert.KernelIdeal.Rows.fin m c Cert.KernelIdeal.main_v10 := by
      refine at4 _ _ fun b Y X o => ?_
      refine (Cert.ReferenceIdeal.Val.img_fin m' c small' b Y X o).trans (Eq.trans ?_ (Cert.KernelIdeal.Rows.fin10 m c b Y X o).symm)
      rw [e0, e1, e2, e3, e4, e5, e6]
    have r2 : Cert.ReferenceIdeal.Val.fin m' c Cert.ReferenceIdeal.main_v78 = (Cert.KernelIdeal.Rows.dats m 0 c).arrAt 10 Cert.KernelIdeal.cfg0.N := by
      refine at4 _ _ fun b r n l => ?_
      refine (Cert.ReferenceIdeal.Val.codes_fin m' c small' b r n l).trans (Eq.trans ?_ (congrFun (Cert.KernelIdeal.Rows.arr10 m c) (ix4 b r n l)).symm)
      rw [e0, e1, e2]
      rfl
    have r3 : Cert.ReferenceIdeal.Val.fin m' c Cert.ReferenceIdeal.main_v44 = Cert.KernelIdeal.Rows.fin m c Cert.KernelIdeal.main_v11 := by
      refine at3 _ _ fun b r n => ?_
      refine (Cert.ReferenceIdeal.Val.scale_fin m' c small' b r n).trans (Eq.trans ?_ (Cert.KernelIdeal.Rows.fin11 m c b r n).symm)
      rw [e0, e1, e2]
    exact ⟨((h c).2 _ (Pipeline.mem_restRefs_of Cert.ReferenceIdeal.main_v76 (by decide) (by decide))).trans r0,
      ((h c).2 _ (Pipeline.mem_restRefs_of Cert.ReferenceIdeal.main_v77 (by decide) (by decide))).trans r1,
      ((h c).2 _ (Pipeline.mem_restRefs_of Cert.ReferenceIdeal.main_v78 (by decide) (by decide))).trans r2,
      ((h c).2 _ (Pipeline.mem_restRefs_of Cert.ReferenceIdeal.main_v44 (by decide) (by decide))).trans r3, hu c⟩

theorem claim : Cert.Claim :=
  ⟨Cert.Kernel.Gen.facts, Cert.KernelIdeal.Gen.facts, Cert.ReferenceIdeal.Gen.facts, Cert.PreNo.facts,
    fun m ρ _ => Cert.Kernel.Any.frame (F := Bits) m ρ, fun m ρ _ => Cert.KernelIdeal.Rows.frame m ρ, fun m ρ _ => Cert.KernelIdeal.Rows.frame m ρ,
    fun m ρ _ => Cert.ReferenceIdeal.Gen.frame m ρ, fun m ρ _ => Cert.ReferenceIdeal.Gen.frame m ρ, trivial, algebraic⟩

end Cert.Proof

end
